-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v43) = v0 c
          ∧ r.2.mem ((c.tc : Thread Cert.Reference13Ideal.nD Cert.Reference13Ideal.τ).loc Cert.Reference13Ideal.main_v44) = v1 c
          ∧ r.2.mem ((c.tc : Thread Cert.Reference13Ideal.nD Cert.Reference13Ideal.τ).loc Cert.Reference13Ideal.main_v45) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v43) = v0 c
          ∧ r.2.mem ((c.tc : Thread Cert.Reference14Ideal.nD Cert.Reference14Ideal.τ).loc Cert.Reference14Ideal.main_v44) = v1 c
          ∧ r.2.mem ((c.tc : Thread Cert.Reference14Ideal.nD Cert.Reference14Ideal.τ).loc Cert.Reference14Ideal.main_v45) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x8x192 : Shape := ⟨3, ![4096, 8, 192]⟩
abbrev S4096x8x128 : Shape := ⟨3, ![4096, 8, 128]⟩
abbrev S4096x1024 : Shape := ⟨2, ![4096, 1024]⟩
abbrev S_ : Shape := ⟨0, ![]⟩

class Facts : Prop where
  reducesTo_S4096x8x192_S_d0_1_2 : S4096x8x192.ReducesTo [0, 1, 2] S_
  h_S_ : 0 < S_.numel
  reducesTo_S4096x8x128_S_d0_1_2 : S4096x8x128.ReducesTo [0, 1, 2] S_
  reducesTo_S4096x1024_S_d0_1 : S4096x1024.ReducesTo [0, 1] S_

variable [Facts]

def fn {F : FTy → Type} [FloatOps F] (main_arg0 : FVec F S4096x8x192 .f32) (main_arg1 : FVec F S4096x8x192 .f32) (main_arg2 : FVec F S4096x8x128 .f32) (main_arg3 : FVec F S4096x1024 .f32) : IVec S_ 1 :=
  let main_v0 : FVec F S4096x8x192 .f32 := Host.absf main_arg0
  let main_cst : FVec F S_ .f32 := constant S_ .f32 0xFF800000#32
  let main_v1 : FVec F S_ .f32 := (fun x v => Host.reduce FloatOps.maximumf x v reducesTo_S4096x8x192_S_d0_1_2 h_S_) main_v0 main_cst
  let main_cst_0 : FVec F S_ .f32 := constant S_ .f32 0x7F800000#32
  let main_v2 : IVec S_ 1 := cmpf .olt main_v1 main_cst_0
  let main_v3 : FVec F S4096x8x192 .f32 := Host.absf main_arg1
  let main_cst_1 : FVec F S_ .f32 := constant S_ .f32 0xFF800000#32
  let main_v4 : FVec F S_ .f32 := (fun x v => Host.reduce FloatOps.maximumf x v reducesTo_S4096x8x192_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S4096x8x128 .f32 := Host.absf main_arg2
  let main_cst_3 : FVec F S_ .f32 := constant S_ .f32 0xFF800000#32
  let main_v8 : FVec F S_ .f32 := (fun x v => Host.reduce FloatOps.maximumf x v reducesTo_S4096x8x128_S_d0_1_2 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S4096x1024 .f32 := Host.absf main_arg3
  let main_cst_5 : FVec F S_ .f32 := constant S_ .f32 0xFF800000#32
  let main_v12 : FVec F S_ .f32 := (fun x v => Host.reduce FloatOps.maximumf x v reducesTo_S4096x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Kernel.lean ====
abbrev S4096x8x192 : Shape := ⟨3, ![4096, 8, 192]⟩
abbrev S4096x8x128 : Shape := ⟨3, ![4096, 8, 128]⟩
abbrev S4096x1024 : Shape := ⟨2, ![4096, 1024]⟩
abbrev S_ : Shape := ⟨0, ![]⟩
abbrev S4096x8x256 : Shape := ⟨3, ![4096, 8, 256]⟩
abbrev S4096x2048 : Shape := ⟨2, ![4096, 2048]⟩
abbrev S8x4096x4096 : Shape := ⟨3, ![8, 4096, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x1 : Shape := ⟨3, ![4096, 8, 1]⟩
abbrev S4096x512 : Shape := ⟨2, ![4096, 512]⟩
abbrev S512x512 : Shape := ⟨2, ![512, 512]⟩
abbrev S512x256 : Shape := ⟨2, ![512, 256]⟩
abbrev S4096x256 : Shape := ⟨2, ![4096, 256]⟩
abbrev S512x128 : Shape := ⟨2, ![512, 128]⟩

abbrev nBuf : Space → Nat
  | .hbm => 75
  | .vmem => 21
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8x192, .f32⟩
  | .hbm, ⟨10, _⟩ => ⟨S4096x8x192, .f32⟩
  | .hbm, ⟨11, _⟩ => ⟨S_, .i32⟩
  | .hbm, ⟨12, _⟩ => ⟨S_, .f32⟩
  | .hbm, ⟨13, _⟩ => ⟨S4096x8x256, .f32⟩
  | .hbm, ⟨14, _⟩ => ⟨S4096x2048, .f32⟩
  | .hbm, ⟨15, _⟩ => ⟨S4096x2048, .bf16⟩
  | .hbm, ⟨16, _⟩ => ⟨S_, .i32⟩
  | .hbm, ⟨17, _⟩ => ⟨S_, .f32⟩
  | .hbm, ⟨18, _⟩ => ⟨S4096x8x256, .f32⟩
  | .hbm, ⟨19, _⟩ => ⟨S4096x2048, .f32⟩
  | .hbm, ⟨20, _⟩ => ⟨S4096x2048, .bf16⟩
  | .hbm, ⟨21, _⟩ => ⟨S4096x1024, .f32⟩
  | .hbm, ⟨22, _⟩ => ⟨S4096x1024, .bf16⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S1x1x4096, .i32⟩
  | .hbm, ⟨32, _⟩ => ⟨S1x4096x1, .i32⟩
  | .hbm, ⟨33, _⟩ => ⟨S1x4096x4096, .i32⟩
  | .hbm, ⟨34, _⟩ => ⟨S1x4096x4096, .i32⟩
  | .hbm, ⟨35, _⟩ => ⟨S1x4096x4096, .i1⟩
  | .hbm, ⟨36, _⟩ => ⟨S_, .f32⟩
  | .hbm, ⟨37, _⟩ => ⟨S_, .f32⟩
  | .hbm, ⟨38, _⟩ => ⟨S8x4096x4096, .i1⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x128x4096, .f32⟩
  | .hbm, ⟨53, _⟩ => ⟨S4096x8x128, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S4096x8x128, .f32⟩
  | .hbm, ⟨62, _⟩ => ⟨S4096x8x128, .f32⟩
  | .hbm, ⟨63, _⟩ => ⟨S_, .f32⟩
  | .hbm, ⟨64, _⟩ => ⟨S4096x8, .f32⟩
  | .hbm, ⟨65, _⟩ => ⟨S4096x8x1, .f32⟩
  | .hbm, ⟨66, _⟩ => ⟨S4096x8x1, .f32⟩
  | .hbm, ⟨67, _⟩ => ⟨S4096x8x128, .f32⟩
  | .hbm, ⟨68, _⟩ => ⟨S4096x1024, .f32⟩
  | .hbm, ⟨69, _⟩ => ⟨S4096x8x128, .f32⟩
  | .hbm, ⟨70, _⟩ => ⟨S4096x1024, .f32⟩
  | .hbm, ⟨71, _⟩ => ⟨S4096x1024, .bf16⟩
  | .hbm, ⟨72, _⟩ => ⟨S4096x2048, .bf16⟩
  | .hbm, ⟨73, _⟩ => ⟨S4096x2048, .bf16⟩
  | .hbm, ⟨74, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S4096x512, .bf16⟩
  | .local _ .vmem, ⟨13, _⟩ => ⟨S4096x512, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S4096x512, .f32⟩
  | .local _ .vmem, ⟨19, _⟩ => ⟨S512x512, .f32⟩
  | .local _ .vmem, ⟨20, _⟩ => ⟨S512x256, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v16 : Index := Scalar.indexCast v12
  let c0_6 : Index := 0#32
  ![v16.toNat, 0]
def k0_off3 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v72 : Index := Scalar.indexCast v12
  let c256 : Index := 256#32
  ![v72.toNat, 256]
def k0_off4 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v75 : Index := Scalar.indexCast v12
  let c128 : Index := 128#32
  ![v75.toNat, 128]
@[reducible] def k0_t1_loop (i : grid0.Coords) : Scf.Loop 32 :=
  let c0_i32_62 : BitVec 32 := 0#32
  let c8_i32 : BitVec 32 := 8#32
  let arg1 : BitVec 32 := BitVec.ofNat 32 (i 1).val
  let c1_i32 : BitVec 32 := 1#32
  let v131 : BitVec 32 := Scalar.addi arg1 c1_i32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_64 : BitVec 32 := 1#32
  ⟨c0_i32_62, v140, c1_i32_64⟩
def k0_mult2 (i : grid0.Coords) (k0_t1 : Fin (k0_t1_loop i).trips) : BitVec 32 :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  v154
def k0_off5 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v156 : Index := Scalar.indexCast v155
  let c0_77 : Index := 0#32
  ![v156.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v159 : Index := Scalar.indexCast v155
  let c0_78 : Index := 0#32
  ![v159.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v202 : Index := Scalar.indexCast v155
  let c256_100 : Index := 256#32
  ![v202.toNat, 256]
def k0_off8 (i : grid0.Coords) (k0_t1 : Fin (k0_t1_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c1_i32_64 : BitVec 32 := 1#32
  let arg14 : BitVec 32 := Scf.iv c0_i32_62 c1_i32_64 k0_t1
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v205 : Index := Scalar.indexCast v155
  let c128_101 : Index := 128#32
  ![v205.toNat, 128]
@[reducible] def k0_t2_loop (i : grid0.Coords) : Scf.Loop 32 :=
  let c0_i32_62 : BitVec 32 := 0#32
  let c8_i32 : BitVec 32 := 8#32
  let arg1 : BitVec 32 := BitVec.ofNat 32 (i 1).val
  let c1_i32 : BitVec 32 := 1#32
  let v131 : BitVec 32 := Scalar.addi arg1 c1_i32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let v137 : BitVec 32 := Scalar.addi c0_i32_62 v136
  let c1_i32_65 : BitVec 32 := 1#32
  ⟨v140, v137, c1_i32_65⟩
def k0_mult3 (i : grid0.Coords) (k0_t2 : Fin (k0_t2_loop i).trips) : BitVec 32 :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  v154
def k0_off9 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v156 : Index := Scalar.indexCast v155
  let c0_77 : Index := 0#32
  ![v156.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v159 : Index := Scalar.indexCast v155
  let c0_78 : Index := 0#32
  ![v159.toNat, 0]
def k0_off11 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v202 : Index := Scalar.indexCast v155
  let c256_100 : Index := 256#32
  ![v202.toNat, 256]
def k0_off12 (i : grid0.Coords) (k0_t2 : Fin (k0_t2_loop i).trips) : Fin 2 → Nat :=
  let arg1 : BitVec 32 := BitVec.ofNat 32 (i 1).val
  let c1_i32 : BitVec 32 := 1#32
  let v131 : BitVec 32 := Scalar.addi arg1 c1_i32
  let c0_i32_62 : BitVec 32 := 0#32
  let c8_i32 : BitVec 32 := 8#32
  let v132 : BitVec 32 := Scalar.subi c8_i32 v131
  let c1_i32_58 : BitVec 32 := 1#32
  let c1_i32_59 : BitVec 32 := 1#32
  let v133 : BitVec 32 := Scalar.subi c1_i32_58 c1_i32_59
  let v134 : BitVec 32 := Scalar.addi v132 v133
  let c1_i32_60 : BitVec 32 := 1#32
  let v135 : BitVec 32 := Scalar.divsi v134 c1_i32_60
  let v136 : BitVec 32 := Scalar.subi v135 c0_i32_62
  let c1_i32_63 : BitVec 32 := 1#32
  let v138 : BitVec 32 := Scalar.divsi v136 c1_i32_63
  let v139 : BitVec 32 := Scalar.muli v138 c1_i32_63
  let v140 : BitVec 32 := Scalar.addi c0_i32_62 v139
  let c1_i32_65 : BitVec 32 := 1#32
  let arg14 : BitVec 32 := Scf.iv v140 c1_i32_65 k0_t2
  let c1_i32_61 : BitVec 32 := 1#32
  let v152 : BitVec 32 := Scalar.muli arg14 c1_i32_61
  let v153 : BitVec 32 := Scalar.addi v131 v152
  let c512_i32_76 : BitVec 32 := 512#32
  let v154 : BitVec 32 := Scalar.muli v153 c512_i32_76
  let v155 : BitVec 32 := v154
  let v205 : Index := Scalar.indexCast v155
  let c128_101 : Index := 128#32
  ![v205.toNat, 128]
def k0_cond2 (i : grid0.Coords) : BitVec 1 :=
  let arg1 : BitVec 32 := BitVec.ofNat 32 (i 1).val
  let c7_i32 : BitVec 32 := 7#32
  let v149 : BitVec 1 := Scalar.cmpi .eq arg1 c7_i32
  let v150 : BitVec 32 := Scalar.extui v149
  let c0_i32_75 : BitVec 32 := 0#32
  let v151 : BitVec 1 := Scalar.cmpi .ne v150 c0_i32_75
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x8x192 : Shape := ⟨3, ![4096, 8, 192]⟩
abbrev S4096x8x128 : Shape := ⟨3, ![4096, 8, 128]⟩
abbrev S4096x1024 : Shape := ⟨2, ![4096, 1024]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S4096x8x256 : Shape := ⟨3, ![4096, 8, 256]⟩
abbrev S4096x2048 : Shape := ⟨2, ![4096, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x1024, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S1x1x4096, .i32⟩
  | .hbm, ⟨13, _⟩ => ⟨S1x4096x1, .i32⟩
  | .hbm, ⟨14, _⟩ => ⟨S1x4096x4096, .i32⟩
  | .hbm, ⟨15, _⟩ => ⟨S1x4096x4096, .i32⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S8x4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S8x4096, .i1⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x128x4096, .f32⟩
  | .hbm, ⟨63, _⟩ => ⟨S4096x8x128, .f32⟩
  | .hbm, ⟨64, _⟩ => ⟨S4096x1024, .f32⟩
  | .hbm, ⟨65, _⟩ => ⟨S4096x8x128, .f32⟩
  | .hbm, ⟨66, _⟩ => ⟨S8x128x4096, .f32⟩
  | .hbm, ⟨67, _⟩ => ⟨S8x4096x4096, .f32⟩
  | .hbm, ⟨68, _⟩ => ⟨S8x128x4096, .f32⟩
  | .hbm, ⟨69, _⟩ => ⟨S4096x8x128, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096x4096, .f32⟩
  | .hbm, ⟨89, _⟩ => ⟨S8x4096x4096, .f32⟩
  | .hbm, ⟨90, _⟩ => ⟨S8x4096x192, .f32⟩
  | .hbm, ⟨91, _⟩ => ⟨S4096x8x192, .f32⟩
  | .hbm, ⟨92, _⟩ => ⟨S8x4096x192, .f32⟩
  | .hbm, ⟨93, _⟩ => ⟨S4096x8x192, .f32⟩
  | .hbm, ⟨94, _⟩ => ⟨S_, .i32⟩
  | .hbm, ⟨95, _⟩ => ⟨S_, .f32⟩
  | .hbm, ⟨96, _⟩ => ⟨S4096x8x256, .f32⟩
  | .hbm, ⟨97, _⟩ => ⟨S4096x2048, .f32⟩
  | .hbm, ⟨98, _⟩ => ⟨S4096x2048, .bf16⟩
  | .hbm, ⟨99, _⟩ => ⟨S_, .i32⟩
  | .hbm, ⟨100, _⟩ => ⟨S_, .f32⟩
  | .hbm, ⟨101, _⟩ => ⟨S4096x8x256, .f32⟩
  | .hbm, ⟨102, _⟩ => ⟨S4096x2048, .f32⟩
  | .hbm, ⟨103, _⟩ => ⟨S4096x2048, .bf16⟩
  | .hbm, ⟨104, _⟩ => ⟨S4096x1024, .f32⟩
  | .hbm, ⟨105, _⟩ => ⟨S4096x1024, .bf16⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_call3_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1x1024x1024 : Shape := ⟨4, ![4, 1, 1024, 1024]⟩
abbrev S1x1x1024x1024 : Shape := ⟨4, ![1, 1, 1024, 1024]⟩
abbrev S4096x256 : Shape := ⟨2, ![4096, 256]⟩
abbrev S256x1024 : Shape := ⟨2, ![256, 1024]⟩
abbrev S1x1x256x1024 : Shape := ⟨4, ![1, 1, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1x1024x1024, .bf16⟩
  | .local _ .vmem, ⟨4, _⟩ => ⟨S1x1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1x1024x1024 : Shape := ⟨4, ![4, 1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1x1024x1024, .f32⟩
  | .hbm, ⟨10, _⟩ => ⟨S4x1x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1x1024x1024 : Shape := ⟨4, ![4, 1, 1024, 1024]⟩
abbrev S1x1x1024x1024 : Shape := ⟨4, ![1, 1, 1024, 1024]⟩
abbrev S4096x256 : Shape := ⟨2, ![4096, 256]⟩
abbrev S256x1024 : Shape := ⟨2, ![256, 1024]⟩
abbrev S1x1x256x1024 : Shape := ⟨4, ![1, 1, 256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1x1024x1024, .bf16⟩
  | .local _ .vmem, ⟨4, _⟩ => ⟨S1x1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1x1024x1024, .f32⟩
  | .hbm, ⟨12, _⟩ => ⟨S4x1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x1024 : Shape := ⟨2, ![4096, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4x1024x1024, .f32⟩
  | .hbm, ⟨3, _⟩ => ⟨S1024x4x1024, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S4096x6144 : Shape := ⟨2, ![4096, 6144]⟩
abbrev S4x1x1024x1536 : Shape := ⟨4, ![4, 1, 1024, 1536]⟩
abbrev S4096x768 : Shape := ⟨2, ![4096, 768]⟩
abbrev S1x1x1024x768 : Shape := ⟨4, ![1, 1, 1024, 768]⟩
abbrev S4096x256 : Shape := ⟨2, ![4096, 256]⟩
abbrev S256x768 : Shape := ⟨2, ![256, 768]⟩
abbrev S1x1x256x768 : Shape := ⟨4, ![1, 1, 256, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1x1024x1536, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1x1024x768, .bf16⟩
  | .local _ .vmem, ⟨4, _⟩ => ⟨S1x1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩
abbrev S4x1x1024x1536 : Shape := ⟨4, ![4, 1, 1024, 1536]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1x1024x1536, .f32⟩
  | .hbm, ⟨12, _⟩ => ⟨S4x1x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S4096x1024 : Shape := ⟨2, ![4096, 1024]⟩
abbrev S4x1024x1536 : Shape := ⟨3, ![4, 1024, 1536]⟩
abbrev S4096x6144 : Shape := ⟨2, ![4096, 6144]⟩
abbrev S2048x1024 : Shape := ⟨2, ![2048, 1024]⟩
abbrev S1x1024x768 : Shape := ⟨3, ![1, 1024, 768]⟩
abbrev S2048x768 : Shape := ⟨2, ![2048, 768]⟩
abbrev S256x1024 : Shape := ⟨2, ![256, 1024]⟩
abbrev S1024x768 : Shape := ⟨2, ![1024, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x1024, .f32⟩
  | .hbm, ⟨3, _⟩ => ⟨S4x1024x1536, .f32⟩
  | .hbm, ⟨4, _⟩ => ⟨S1024x4x1536, .f32⟩
  | .hbm, ⟨5, _⟩ => ⟨S1024x6144, .f32⟩
  | .hbm, ⟨6, _⟩ => ⟨S4096x6144, .f32⟩
  | .hbm, ⟨7, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S4x1x512x1024 : Shape := ⟨4, ![4, 1, 512, 1024]⟩
abbrev S4096x512 : Shape := ⟨2, ![4096, 512]⟩
abbrev S1x1x512x512 : Shape := ⟨4, ![1, 1, 512, 512]⟩
abbrev S4096x256 : Shape := ⟨2, ![4096, 256]⟩
abbrev S256x512 : Shape := ⟨2, ![256, 512]⟩
abbrev S1x1x256x512 : Shape := ⟨4, ![1, 1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4x1x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x1x512x512, .bf16⟩
  | .local _ .vmem, ⟨5, _⟩ => ⟨S1x1x512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x1x512x1024 : Shape := ⟨4, ![4, 1, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S4x1x512x1024, .f32⟩
  | .hbm, ⟨10, _⟩ => ⟨S4x1x512x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel11.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel12.lean ====
abbrev S4096x1024 : Shape := ⟨2, ![4096, 1024]⟩
abbrev S4x1x256x1024 : Shape := ⟨4, ![4, 1, 256, 1024]⟩
abbrev S4096x256 : Shape := ⟨2, ![4096, 256]⟩
abbrev S4096x512 : Shape := ⟨2, ![4096, 512]⟩
abbrev S1x1x256x512 : Shape := ⟨4, ![1, 1, 256, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1x256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x512, .bf16⟩
  | .local _ .vmem, ⟨3, _⟩ => ⟨S4096x512, .bf16⟩
  | .local _ .vmem, ⟨4, _⟩ => ⟨S1x1x256x512, .bf16⟩
  | .local _ .vmem, ⟨5, _⟩ => ⟨S1x1x256x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x1x256x1024, .f32⟩
  | .hbm, ⟨10, _⟩ => ⟨S4x1x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v106 : BitVec 1 := Scalar.cmpi .eq arg0 c0_i32
  let v107 : BitVec 32 := Scalar.extui v106
  let c0_i32_60 : BitVec 32 := 0#32
  let v108 : BitVec 1 := Scalar.cmpi .ne v107 c0_i32_60
  v108

def k0_cond2 (i : grid0.Coords) : BitVec 1 :=
  let arg0 : BitVec 32 := BitVec.ofNat 32 (i 0).val
  let c0_i32 : BitVec 32 := 0#32
  let v106 : BitVec 1 := Scalar.cmpi .eq arg0 c0_i32
  let v_true : BitVec 1 := 1#1
  let v109 : BitVec 1 := Scalar.xori v106 v_true
  let v110 : BitVec 32 := Scalar.extui v109
  let c0_i32_61 : BitVec 32 := 0#32
  let v111 : BitVec 1 := Scalar.cmpi .ne v110 c0_i32_61
  v111

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel14.lean ====
abbrev S4096x6144 : Shape := ⟨2, ![4096, 6144]⟩
abbrev S4x1024x1536 : Shape := ⟨3, ![4, 1024, 1536]⟩
abbrev S4096x1024 : Shape := ⟨2, ![4096, 1024]⟩
abbrev S1x1024 : Shape := ⟨2, ![1, 1024]⟩
abbrev S512x6144 : Shape := ⟨2, ![512, 6144]⟩
abbrev S512x1024 : Shape := ⟨2, ![512, 1024]⟩
abbrev S256x6144 : Shape := ⟨2, ![256, 6144]⟩
abbrev S256x1536 : Shape := ⟨2, ![256, 1536]⟩
abbrev S1x1024x1536 : Shape := ⟨3, ![1, 1024, 1536]⟩
abbrev S1024x1536 : Shape := ⟨2, ![1024, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v106 : BitVec 1 := Scalar.cmpi .eq arg0 c0_i32
  let v107 : BitVec 32 := Scalar.extui v106
  let c0_i32_60 : BitVec 32 := 0#32
  let v108 : BitVec 1 := Scalar.cmpi .ne v107 c0_i32_60
  v108

def k0_cond2 (i : grid0.Coords) : BitVec 1 :=
  let arg0 : BitVec 32 := BitVec.ofNat 32 (i 0).val
  let c0_i32 : BitVec 32 := 0#32
  let v106 : BitVec 1 := Scalar.cmpi .eq arg0 c0_i32
  let v_true : BitVec 1 := 1#1
  let v109 : BitVec 1 := Scalar.xori v106 v_true
  let v110 : BitVec 32 := Scalar.extui v109
  let c0_i32_61 : BitVec 32 := 0#32
  let v111 : BitVec 1 := Scalar.cmpi .ne v110 c0_i32_61
  v111

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096x6144 : Shape := ⟨2, ![4096, 6144]⟩
abbrev S4x1024x1536 : Shape := ⟨3, ![4, 1024, 1536]⟩
abbrev S4096x1024 : Shape := ⟨2, ![4096, 1024]⟩
abbrev S1x1024 : Shape := ⟨2, ![1, 1024]⟩
abbrev S1024x4x1536 : Shape := ⟨3, ![1024, 4, 1536]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x1536, .f32⟩
  | .hbm, ⟨6, _⟩ => ⟨S1024x4x1536, .f32⟩
  | .hbm, ⟨7, _⟩ => ⟨S1024x6144, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S4096x6144, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.Rects.lean ====
/- Arrays and their rectangles, as plain functions: the part of an array under a rectangle, the array
   with a rectangle overwritten, and how a memory view's reads and writes are those two operations. -/
module

public import Idealize.ShloMosaic.Lib.Exec
public import Idealize.ShloMosaic.Lib.Writes

@[expose] public section

noncomputable section

namespace Cert.Rects

open Idealize.ShloMosaic

variable {Val : EltTy → Type} {s : Shape} {e : EltTy}

/-- The part of the array `a` under the rectangle `r`. -/
def cut (r : Rect s) (a : s.Idx → Val e) : r.shape.Idx → Val e := fun x => a (r.emb x)

/-- The array `a` with the rectangle `r` overwritten by `w`. -/
def over (r : Rect s) (w : r.shape.Idx → Val e) (a : s.Idx → Val e) : s.Idx → Val e :=
  fun y => match preimage? r.emb y with
    | some x => w x
    | none => a y

/-- Inside the rectangle the overwritten array holds the new values. -/
theorem over_emb (r : Rect s) (w : r.shape.Idx → Val e) (a : s.Idx → Val e) (x : r.shape.Idx) :
    over r w a (r.emb x) = w x := by
  simp [over, preimage?_emb]

/-- Outside it the old ones. -/
theorem over_of_not_mem (r : Rect s) (w : r.shape.Idx → Val e) (a : s.Idx → Val e) {y : s.Idx}
    (hy : y ∉ r.set) : over r w a y = a y := by
  unfold over
  rw [preimage?_eq_none]
  intro x h
  exact hy (h ▸ r.idx_mem x)

/-- What was written is read back. -/
theorem cut_over (r : Rect s) (w : r.shape.Idx → Val e) (a : s.Idx → Val e) : cut r (over r w a) = w :=
  funext fun x => over_emb r w a x

/-- A rectangle apart from the one overwritten reads the old values. -/
theorem cut_over_disjoint (r r' : Rect s) (h : Disjoint r.set r'.set) (w : r'.shape.Idx → Val e) (a : s.Idx → Val e) :
    cut r (over r' w a) = cut r a :=
  funext fun x => over_of_not_mem r' w a (Finset.disjoint_left.mp h (r.idx_mem x))

variable {sig : RefSig} {κ : Kind} {sp : Space}

/-- A store through a view overwrites the rectangle of the array the view reads. -/
theorem read_slice_write (v : View sig κ sp s e) (r : Rect s) (f : v.ty.Contents Val) (w : r.shape.Idx → Val e) :
    v.read Val ((v.slice r).write Val f w Finset.univ) = over r w (v.read Val f) := by
  funext y
  by_cases hy : y ∈ r.set
  · obtain ⟨x, rfl⟩ := r.exists_idx_of_mem hy
    show _ = over r w _ (r.emb x)
    rw [over_emb]; exact View.read_slice_write_emb _ _ _ (Finset.mem_univ _)
  · rw [over_of_not_mem _ _ _ hy, View.read_slice_write_of_not_mem _ _ _ _ (by rwa [Rect.map_emb_univ])]

/-- A list of stores, the last first. -/
theorem read_writes_cons (v : View sig κ sp s e) (f : v.ty.Contents Val) (r : Rect s) (w : r.shape.Idx → Val e)
    (L : List (View.Piece Val s e)) :
    v.read Val (v.writes Val f (⟨r, w⟩ :: L)) = over r w (v.read Val (v.writes Val f L)) :=
  read_slice_write v r _ w

/-- A load through a view reads the part of its array under the rectangle. -/
theorem readAt_eq_cut (v : View sig κ sp s e) (r : Rect s) (f : v.ty.Contents Val) :
    v.readAt Val r.toLoadRect f = cut r (v.read Val f) := rfl

/-- The same of a load of what stores left. -/
theorem readCov_eq_cut [∀ e, Nonempty (Val e)] (v : View sig κ sp s e) (r : Rect s) (L : List (View.Piece Val s e)) :
    v.readCov L r.toLoadRect = cut r (v.read Val (v.writes Val v.junk L)) := rfl

/-- A rectangle that is the whole array: overwriting it leaves the new values alone. -/
theorem over_whole (off : Fin s.rank → ℕ) (inb : ∀ a, off a + s.size a ≤ s.size a) (w a : s.Idx → Val e) :
    over (Rect.unit (s := s) off s.size inb) w a = w := by
  have h0 : ∀ a, off a = 0 := fun a => by have := inb a; omega
  funext y
  have hy : (Rect.unit (s := s) off s.size inb).emb y = y := funext fun a => Fin.ext (by
    show off a + 1 * (y a).val = (y a).val
    rw [h0 a]; omega)
  conv_lhs => rw [← hy]
  exact over_emb (Rect.unit (s := s) off s.size inb) w a y

/-- and reading it reads the array. -/
theorem cut_whole (off : Fin s.rank → ℕ) (inb : ∀ a, off a + s.size a ≤ s.size a) (a : s.Idx → Val e) :
    cut (Rect.unit (s := s) off s.size inb) a = a := by
  have h0 : ∀ a, off a = 0 := fun a => by have := inb a; omega
  funext y
  show a _ = a y
  congr 1
  exact funext fun b => Fin.ext (by
    show off b + 1 * (y b).val = (y b).val
    rw [h0 b]; omega)

/-- A load of the whole array through a view. -/
theorem readAt_whole (v : View sig κ sp s e) (off : Fin s.rank → ℕ) (inb : ∀ a, off a + s.size a ≤ s.size a) (f : v.ty.Contents Val) :
    v.readAt Val (Rect.unit (s := s) off s.size inb).toLoadRect f = v.read Val f :=
  cut_whole off inb (v.read Val f)

end Cert.Rects

end
-- ==== Proof.KernelIdeal.Step.lean ====
/- What one grid point of the kernel does, as a function of its blocks: the query block on the diagonal
   first (`diag`), then the later query blocks one by one (`trip`, `trips`), each adding to the three
   accumulators — the queries' gradient, the keys' and the values'. A point works on two heads, side by
   side in the lanes. The stores of a loop trip leave exactly `trip` (`read_trip`), and the trips' stores
   together `trips` (`read_trips`). -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Rects

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Rects

/-- The blocks a grid point reads: two heads of queries, of the incoming gradient, of the row sums `lse` and `delta`
    (whole sequence), and one block of keys and of values. -/
structure Blks (F : FTy → Type) where
  q : Vec F S4096x512 .bf16
  k : Vec F S512x512 .bf16
  v : Vec F S512x256 .bf16
  g : Vec F S4096x256 .bf16
  lse : Vec F S4096x256 .f32
  delta : Vec F S4096x256 .f32

/-- The three accumulators. -/
structure Acc (F : FTy → Type) where
  dq : Vec F S4096x512 .f32
  dk : Vec F S512x512 .f32
  dv : Vec F S512x256 .f32

/-- The left and right head's columns of a key block, -/
abbrev K0 : Rect S512x512 := Rect.unit ![0, 0] S512x256.size inb_S512x512_S512x256_0_0
abbrev K1 : Rect S512x512 := Rect.unit ![0, 256] S512x256.size inb_S512x512_S512x256_0_256
/-- and of a value block. -/
abbrev V0 : Rect S512x256 := Rect.unit ![0, 0] S512x128.size inb_S512x256_S512x128_0_0
abbrev V1 : Rect S512x256 := Rect.unit ![0, 128] S512x128.size inb_S512x256_S512x128_0_128

/-- The rows of the diagonal query block, each head's columns, -/
abbrev D0 (i : grid0.Coords) : Rect S4096x512 := Rect.unit (k0_off1 i) S512x256.size (k0_off1_inb i)
abbrev D1 (i : grid0.Coords) : Rect S4096x512 := Rect.unit (k0_off3 i) S512x256.size (k0_off3_inb i)
abbrev E0 (i : grid0.Coords) : Rect S4096x256 := Rect.unit (k0_off2 i) S512x128.size (k0_off2_inb i)
abbrev E1 (i : grid0.Coords) : Rect S4096x256 := Rect.unit (k0_off4 i) S512x128.size (k0_off4_inb i)
/-- and of the query block of trip `t`. -/
abbrev Q0 (i : grid0.Coords) (t : Fin (k0_t1_loop i).trips) : Rect S4096x512 := Rect.unit (k0_off5 i t) S512x256.size (k0_off5_inb i t)
abbrev Q1 (i : grid0.Coords) (t : Fin (k0_t1_loop i).trips) : Rect S4096x512 := Rect.unit (k0_off7 i t) S512x256.size (k0_off7_inb i t)
abbrev G0 (i : grid0.Coords) (t : Fin (k0_t1_loop i).trips) : Rect S4096x256 := Rect.unit (k0_off6 i t) S512x128.size (k0_off6_inb i t)
abbrev G1 (i : grid0.Coords) (t : Fin (k0_t1_loop i).trips) : Rect S4096x256 := Rect.unit (k0_off8 i t) S512x128.size (k0_off8_inb i t)

/-- The diagonal query block's contributions added to the accumulators. -/
def diag (i : grid0.Coords) (x : Blks F) (a : Acc F) : Acc F where
  dq := over (D1 i) (k0_pay55 (k0_pay49 (cut K1 x.k))
          (k0_pay51 (cut (D1 i) x.q) (cut (E1 i) x.g) (cut K1 x.k) (cut V1 x.v) (cut (E1 i) x.lse) (cut (E1 i) x.delta))
          (cut (D1 i) a.dq))
        (over (D0 i) (k0_pay46 (k0_pay37 (cut (E0 i) x.g)) (k0_pay38 (cut K0 x.k)) (k0_pay39 (cut V0 x.v))
          (k0_pay40 (cut (D0 i) x.q) (cut K0 x.k)) k0_pay41 (cut (E0 i) x.lse) (cut (E0 i) x.delta) (cut (D0 i) a.dq)) a.dq)
  dk := over K1 (k0_pay54 (k0_pay47 (cut (D1 i) x.q))
          (k0_pay51 (cut (D1 i) x.q) (cut (E1 i) x.g) (cut K1 x.k) (cut V1 x.v) (cut (E1 i) x.lse) (cut (E1 i) x.delta))
          (cut K1 a.dk))
        (over K0 (k0_pay45 (k0_pay36 (cut (D0 i) x.q)) (k0_pay37 (cut (E0 i) x.g)) (k0_pay39 (cut V0 x.v))
          (k0_pay40 (cut (D0 i) x.q) (cut K0 x.k)) k0_pay41 (cut (E0 i) x.lse) (cut (E0 i) x.delta) (cut K0 a.dk)) a.dk)
  dv := over V1 (k0_pay53 (k0_pay52 (cut (D1 i) x.q) (cut (E1 i) x.g) (cut K1 x.k) (cut (E1 i) x.lse) (cut V1 a.dv)))
        (over V0 (k0_pay44 (k0_pay37 (cut (E0 i) x.g)) (k0_pay40 (cut (D0 i) x.q) (cut K0 x.k)) k0_pay41 (cut (E0 i) x.lse) (cut V0 a.dv)) a.dv)

/-- One later query block's contributions added. -/
def trip (i : grid0.Coords) (x : Blks F) (t : Fin (k0_t1_loop i).trips) (a : Acc F) : Acc F where
  dq := over (Q1 i t) (k0_pay58 (k0_pay14 (cut K1 x.k))
          (k0_pay16 (cut (Q1 i t) x.q) (cut (G1 i t) x.g) (cut K1 x.k) (cut V1 x.v) (cut (G1 i t) x.lse) (cut (G1 i t) x.delta))
          (cut (Q1 i t) a.dq))
        (over (Q0 i t) (k0_pay11 (k0_pay5 (cut K0 x.k))
          (k0_pay7 (cut (Q0 i t) x.q) (cut (G0 i t) x.g) (cut K0 x.k) (cut V0 x.v) (cut (G0 i t) x.lse) (cut (G0 i t) x.delta))
          (cut (Q0 i t) a.dq)) a.dq)
  dk := over K1 (k0_pay57 (k0_pay12 (cut (Q1 i t) x.q))
          (k0_pay16 (cut (Q1 i t) x.q) (cut (G1 i t) x.g) (cut K1 x.k) (cut V1 x.v) (cut (G1 i t) x.lse) (cut (G1 i t) x.delta))
          (cut K1 a.dk))
        (over K0 (k0_pay10 (k0_pay9 (cut (Q0 i t) x.q) (cut (G0 i t) x.g) (cut K0 x.k) (cut V0 x.v) (cut (G0 i t) x.lse)
          (cut (G0 i t) x.delta) (cut K0 a.dk))) a.dk)
  dv := over V1 (k0_pay56 (k0_pay17 (cut (Q1 i t) x.q) (cut (G1 i t) x.g) (cut K1 x.k) (cut (G1 i t) x.lse) (cut V1 a.dv)))
        (over V0 (k0_pay8 (cut (Q0 i t) x.q) (cut (G0 i t) x.g) (cut K0 x.k) (cut (G0 i t) x.lse) (cut V0 a.dv)) a.dv)

/-- The first `n` later query blocks' contributions added. -/
def trips (i : grid0.Coords) (x : Blks F) (a : Acc F) : ℕ → Acc F
  | 0 => a
  | n + 1 => if h : n < (k0_t1_loop i).trips then trip i x ⟨n, h⟩ (trips i x a n) else trips i x a n

/-- A whole grid point, from the queries' gradient `a` it finds: the keys' and the values' gradients start from zero. -/
def point (i : grid0.Coords) (x : Blks F) (a : Vec F S4096x512 .f32) : Acc F :=
  trips i x (diag i x ⟨a, k0_pay34, k0_pay35⟩) (k0_t1_loop i).trips

/-- What a memory triple holding the accumulators reads as. -/
abbrev accOf (arg11 : Memref sig .tc .vmem S4096x512 .f32) (arg12 : Memref sig .tc .vmem S512x512 .f32) (arg13 : Memref sig .tc .vmem S512x256 .f32)
    (f11 : BufTy.Contents (Elt F) arg11.view.ty) (f12 : BufTy.Contents (Elt F) arg12.view.ty) (f13 : BufTy.Contents (Elt F) arg13.view.ty) : Acc F :=
  ⟨arg11.view.read (Elt F) f11, arg12.view.read (Elt F) f12, arg13.view.read (Elt F) f13⟩

section
variable (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole)
  (arg1 v12 : BitVec 32) (v74 v79 : FVec F S512x256 .bf16) (v109 : FVec F S512x512 .bf16) (v113 : FVec F S512x128 .f32)
  (v114 : Vec F S512x128 .f32) (v131 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- What the memory a point reads holds. -/
abbrev blksOf (arg2 : Memref sig .tc .vmem S4096x512 .bf16) (arg3 : Memref sig .tc .vmem S512x512 .bf16) (arg4 : Memref sig .tc .vmem S512x256 .bf16) (arg5 : Memref sig .tc .vmem S4096x256 .bf16) (arg6 : Memref sig .tc .vmem S4096x256 .f32) (arg7 : Memref sig .tc .vmem S4096x256 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty) : Blks F :=
  ⟨arg2.view.read (Elt F) X2, arg3.view.read (Elt F) X3, arg4.view.read (Elt F) X4, arg5.view.read (Elt F) X5, arg6.view.read (Elt F) X6, arg7.view.read (Elt F) X7⟩

set_option maxHeartbeats 4000000 in
/-- The stores of trip `t`, over contents `f11 f12 f13`. -/
theorem read_trip (t : Fin (k0_t1_loop i).trips) (f11 f12 f13) :
    accOf arg11 arg12 arg13
      (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 t f11 f12 f13).1)
      (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 t f11 f12 f13).2.1)
      (arg13.view.writes (Elt F) f13 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 t f11 f12 f13).2.2)
    = trip i (blksOf arg2 arg3 arg4 arg5 arg6 arg7 X2 X3 X4 X5 X6 X7) t (accOf arg11 arg12 arg13 f11 f12 f13) := by
  unfold tripL_k0_t1 trip_k0_t1
  dsimp only
  unfold accOf trip
  congr 1
  · refine (read_writes_cons _ _ _ _ _).trans ?_
    refine (congrArg (over _ _) (read_writes_cons _ _ _ _ _)).trans ?_
    rfl
  · refine (read_writes_cons _ _ _ _ _).trans ?_
    refine (congrArg (over _ _) (read_writes_cons _ _ _ _ _)).trans ?_
    rfl
  · refine (read_writes_cons _ _ _ _ _).trans ?_
    refine (congrArg (over _ _) (read_writes_cons _ _ _ _ _)).trans ?_
    rfl

/-- The stores of the trips before `n`, over contents `f11 f12 f13`. -/
theorem read_trips (f11 f12 f13) (n : ℕ) (hn : n ≤ (k0_t1_loop i).trips) :
    accOf arg11 arg12 arg13
      (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 f11 f12 f13 n).1)
      (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 f11 f12 f13 n).2.1)
      (arg13.view.writes (Elt F) f13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 f11 f12 f13 n).2.2)
    = trips i (blksOf arg2 arg3 arg4 arg5 arg6 arg7 X2 X3 X4 X5 X6 X7) (accOf arg11 arg12 arg13 f11 f12 f13) n := by
  induction n with
  | zero => rfl
  | succ n ih =>
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 f11 f12 f13 ⟨n, hn⟩
    dsimp only at hs
    rw [hs, View.writes_append, View.writes_append, View.writes_append, read_trip, ih (Nat.le_of_succ_le hn)]
    rw [trips]
    split
    · rfl
    · exact absurd hn ‹_›

end

end Cert.KernelIdeal.Gen

end
-- ==== Proof.KernelIdeal.Stores.lean ====
/- What a grid point's stores leave in the accumulators: those of the diagonal query block, and those of a whole point. -/
module

public import proofs.«01_k».proof.Proof.KernelIdeal.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Rects

/-- The two heads' columns are apart: of a key block, -/
theorem K_apart : Disjoint K1.set K0.set := Rect.unit_disjoint 1 (Or.inr (by decide))
/-- of a value block, -/
theorem V_apart : Disjoint V1.set V0.set := Rect.unit_disjoint 1 (Or.inr (by decide))
/-- and of a query block. -/
theorem D_apart (i : grid0.Coords) : Disjoint (D1 i).set (D0 i).set :=
  Rect.unit_disjoint 1 (Or.inr (by rw [k0_off1_eq, k0_off3_eq]; show 0 + 256 ≤ 256; omega))

/-- The stores into the queries' gradient on the diagonal, `r0` and `r1` what the two heads read there. -/
abbrev stores11 (i : grid0.Coords) (x : Blks F) (r0 r1 : FVec F S512x256 .f32) : List (View.Piece (Elt F) S4096x512 .f32) :=
  [⟨D1 i, k0_pay55 (k0_pay49 (cut K1 x.k)) (k0_pay51 (cut (D1 i) x.q) (cut (E1 i) x.g) (cut K1 x.k) (cut V1 x.v) (cut (E1 i) x.lse) (cut (E1 i) x.delta)) r1⟩,
   ⟨D0 i, k0_pay46 (k0_pay37 (cut (E0 i) x.g)) (k0_pay38 (cut K0 x.k)) (k0_pay39 (cut V0 x.v))
          (k0_pay40 (cut (D0 i) x.q) (cut K0 x.k)) k0_pay41 (cut (E0 i) x.lse) (cut (E0 i) x.delta) r0⟩]

/-- Those into the keys' gradient, -/
abbrev stores12 (i : grid0.Coords) (x : Blks F) (r0 r1 : FVec F S512x256 .f32) : List (View.Piece (Elt F) S512x512 .f32) :=
  [⟨K1, k0_pay54 (k0_pay47 (cut (D1 i) x.q)) (k0_pay51 (cut (D1 i) x.q) (cut (E1 i) x.g) (cut K1 x.k) (cut V1 x.v) (cut (E1 i) x.lse) (cut (E1 i) x.delta)) r1⟩,
   ⟨K0, k0_pay45 (k0_pay36 (cut (D0 i) x.q)) (k0_pay37 (cut (E0 i) x.g)) (k0_pay39 (cut V0 x.v))
          (k0_pay40 (cut (D0 i) x.q) (cut K0 x.k)) k0_pay41 (cut (E0 i) x.lse) (cut (E0 i) x.delta) r0⟩]

/-- and into the values'. -/
abbrev stores13 (i : grid0.Coords) (x : Blks F) (r0 r1 : FVec F S512x128 .f32) : List (View.Piece (Elt F) S512x256 .f32) :=
  [⟨V1, k0_pay53 (k0_pay52 (cut (D1 i) x.q) (cut (E1 i) x.g) (cut K1 x.k) (cut (E1 i) x.lse) r1)⟩,
   ⟨V0, k0_pay44 (k0_pay37 (cut (E0 i) x.g)) (k0_pay40 (cut (D0 i) x.q) (cut K0 x.k)) k0_pay41 (cut (E0 i) x.lse) r0⟩]

section
variable (i : grid0.Coords) (x : Blks F) (arg11 : Memref sig .tc .vmem S4096x512 .f32) (arg12 : Memref sig .tc .vmem S512x512 .f32) (arg13 : Memref sig .tc .vmem S512x256 .f32)

set_option maxHeartbeats 4000000 in
/-- The diagonal's stores over contents that read as `a`. -/
theorem read_diag (a : Acc F) (f11 : BufTy.Contents (Elt F) arg11.view.ty) (f12 : BufTy.Contents (Elt F) arg12.view.ty) (f13 : BufTy.Contents (Elt F) arg13.view.ty)
    (r11 s11 r12 s12 : FVec F S512x256 .f32) (r13 s13 : FVec F S512x128 .f32)
    (h11 : arg11.view.read (Elt F) f11 = a.dq) (h12 : arg12.view.read (Elt F) f12 = a.dk) (h13 : arg13.view.read (Elt F) f13 = a.dv)
    (hr11 : r11 = cut (D0 i) a.dq) (hs11 : s11 = cut (D1 i) a.dq) (hr12 : r12 = cut K0 a.dk) (hs12 : s12 = cut K1 a.dk)
    (hr13 : r13 = cut V0 a.dv) (hs13 : s13 = cut V1 a.dv) :
    accOf arg11 arg12 arg13 (arg11.view.writes (Elt F) f11 (stores11 i x r11 s11)) (arg12.view.writes (Elt F) f12 (stores12 i x r12 s12))
      (arg13.view.writes (Elt F) f13 (stores13 i x r13 s13)) = diag i x a := by
  subst hr11 hs11 hr12 hs12 hr13 hs13
  unfold accOf diag
  congr 1
  · exact (read_writes_cons _ _ _ _ _).trans (congrArg (over _ _) ((read_writes_cons _ _ _ _ _).trans (congrArg (over _ _) h11)))
  · exact (read_writes_cons _ _ _ _ _).trans (congrArg (over _ _) ((read_writes_cons _ _ _ _ _).trans (congrArg (over _ _) h12)))
  · exact (read_writes_cons _ _ _ _ _).trans (congrArg (over _ _) ((read_writes_cons _ _ _ _ _).trans (congrArg (over _ _) h13)))

/-- Setting an accumulator to zero. -/
abbrev zero11 : List (View.Piece (Elt F) S4096x512 .f32) := [⟨Rect.unit ![0, 0] S4096x512.size inb_S4096x512_S4096x512_0_0, k0_pay33⟩]
abbrev zero12 : List (View.Piece (Elt F) S512x512 .f32) := [⟨Rect.unit ![0, 0] S512x512.size inb_S512x512_S512x512_0_0, k0_pay34⟩]
abbrev zero13 : List (View.Piece (Elt F) S512x256 .f32) := [⟨Rect.unit ![0, 0] S512x256.size inb_S512x256_S512x256_0_0, k0_pay35⟩]

theorem read_zero11 (f) : arg11.view.read (Elt F) (arg11.view.writes (Elt F) f zero11) = k0_pay33 :=
  (read_writes_cons _ _ _ _ _).trans (over_whole _ _ _ _)
theorem read_zero12 (f) : arg12.view.read (Elt F) (arg12.view.writes (Elt F) f zero12) = k0_pay34 :=
  (read_writes_cons _ _ _ _ _).trans (over_whole _ _ _ _)
theorem read_zero13 (f) : arg13.view.read (Elt F) (arg13.view.writes (Elt F) f zero13) = k0_pay35 :=
  (read_writes_cons _ _ _ _ _).trans (over_whole _ _ _ _)

/-- What the right head reads of an accumulator the left head has stored into. -/
theorem read_right11 (f) (w) : cut (D1 i) (arg11.view.read (Elt F) (arg11.view.writes (Elt F) f (⟨D0 i, w⟩ :: zero11))) = cut (D1 i) k0_pay33 :=
  (congrArg (cut (D1 i)) (read_writes_cons _ _ _ _ _)).trans ((cut_over_disjoint _ _ (D_apart i) _ _).trans (congrArg (cut (D1 i)) (read_zero11 arg11 f)))
theorem read_right12 (f) (w) : cut K1 (arg12.view.read (Elt F) (arg12.view.writes (Elt F) f (⟨K0, w⟩ :: zero12))) = cut K1 k0_pay34 :=
  (congrArg (cut K1) (read_writes_cons _ _ _ _ _)).trans ((cut_over_disjoint _ _ K_apart _ _).trans (congrArg (cut K1) (read_zero12 arg12 f)))
theorem read_right13 (f) (w) : cut V1 (arg13.view.read (Elt F) (arg13.view.writes (Elt F) f (⟨V0, w⟩ :: zero13))) = cut V1 k0_pay35 :=
  (congrArg (cut V1) (read_writes_cons _ _ _ _ _)).trans ((cut_over_disjoint _ _ V_apart _ _).trans (congrArg (cut V1) (read_zero13 arg13 f)))

/-- The left head's store into an accumulator, from what it read there. -/
abbrev left11 (r0 : FVec F S512x256 .f32) : FVec F S512x256 .f32 :=
  k0_pay46 (k0_pay37 (cut (E0 i) x.g)) (k0_pay38 (cut K0 x.k)) (k0_pay39 (cut V0 x.v))
    (k0_pay40 (cut (D0 i) x.q) (cut K0 x.k)) k0_pay41 (cut (E0 i) x.lse) (cut (E0 i) x.delta) r0
abbrev left12 (r0 : FVec F S512x256 .f32) : FVec F S512x256 .f32 :=
  k0_pay45 (k0_pay36 (cut (D0 i) x.q)) (k0_pay37 (cut (E0 i) x.g)) (k0_pay39 (cut V0 x.v))
    (k0_pay40 (cut (D0 i) x.q) (cut K0 x.k)) k0_pay41 (cut (E0 i) x.lse) (cut (E0 i) x.delta) r0
abbrev left13 (r0 : FVec F S512x128 .f32) : FVec F S512x128 .f32 :=
  k0_pay44 (k0_pay37 (cut (E0 i) x.g)) (k0_pay40 (cut (D0 i) x.q) (cut K0 x.k)) k0_pay41 (cut (E0 i) x.lse) r0

/-- All the stores into an accumulator that starts from zero. -/
abbrev all11 : List (View.Piece (Elt F) S4096x512 .f32) :=
  stores11 i x (cut (D0 i) (arg11.view.read (Elt F) (arg11.view.writes (Elt F) arg11.view.junk zero11)))
    (cut (D1 i) (arg11.view.read (Elt F) (arg11.view.writes (Elt F) arg11.view.junk (⟨D0 i, left11 i x (cut (D0 i) (arg11.view.read (Elt F) (arg11.view.writes (Elt F) arg11.view.junk zero11)))⟩ :: zero11)))) ++ zero11
abbrev all12 : List (View.Piece (Elt F) S512x512 .f32) :=
  stores12 i x (cut K0 (arg12.view.read (Elt F) (arg12.view.writes (Elt F) arg12.view.junk zero12)))
    (cut K1 (arg12.view.read (Elt F) (arg12.view.writes (Elt F) arg12.view.junk (⟨K0, left12 i x (cut K0 (arg12.view.read (Elt F) (arg12.view.writes (Elt F) arg12.view.junk zero12)))⟩ :: zero12)))) ++ zero12
abbrev all13 : List (View.Piece (Elt F) S512x256 .f32) :=
  stores13 i x (cut V0 (arg13.view.read (Elt F) (arg13.view.writes (Elt F) arg13.view.junk zero13)))
    (cut V1 (arg13.view.read (Elt F) (arg13.view.writes (Elt F) arg13.view.junk (⟨V0, left13 i x (cut V0 (arg13.view.read (Elt F) (arg13.view.writes (Elt F) arg13.view.junk zero13)))⟩ :: zero13)))) ++ zero13

set_option maxHeartbeats 4000000 in
/-- The diagonal's stores where the queries' gradient is carried on, -/
theorem read_carried (f11 : BufTy.Contents (Elt F) arg11.view.ty) :
    accOf arg11 arg12 arg13 (arg11.view.writes (Elt F) f11 (stores11 i x (cut (D0 i) (arg11.view.read (Elt F) f11)) (cut (D1 i) (arg11.view.read (Elt F) f11))))
      (arg12.view.writes (Elt F) arg12.view.junk (all12 i x arg12)) (arg13.view.writes (Elt F) arg13.view.junk (all13 i x arg13))
    = diag i x ⟨arg11.view.read (Elt F) f11, k0_pay34, k0_pay35⟩ := by
  rw [View.writes_append, View.writes_append]
  exact read_diag i x arg11 arg12 arg13 ⟨arg11.view.read (Elt F) f11, k0_pay34, k0_pay35⟩ f11 _ _ _ _ _ _ _ _
    rfl (read_zero12 arg12 _) (read_zero13 arg13 _) rfl rfl (congrArg (cut K0) (read_zero12 arg12 _)) (read_right12 arg12 _ _)
    (congrArg (cut V0) (read_zero13 arg13 _)) (read_right13 arg13 _ _)

set_option maxHeartbeats 4000000 in
/-- and where it starts from zero too. -/
theorem read_begun :
    accOf arg11 arg12 arg13 (arg11.view.writes (Elt F) arg11.view.junk (all11 i x arg11))
      (arg12.view.writes (Elt F) arg12.view.junk (all12 i x arg12)) (arg13.view.writes (Elt F) arg13.view.junk (all13 i x arg13))
    = diag i x ⟨k0_pay33, k0_pay34, k0_pay35⟩ := by
  rw [View.writes_append, View.writes_append, View.writes_append]
  exact read_diag i x arg11 arg12 arg13 ⟨k0_pay33, k0_pay34, k0_pay35⟩ _ _ _ _ _ _ _ _ _
    (read_zero11 arg11 _) (read_zero12 arg12 _) (read_zero13 arg13 _) (congrArg (cut (D0 i)) (read_zero11 arg11 _)) (read_right11 i arg11 _ _)
    (congrArg (cut K0) (read_zero12 arg12 _)) (read_right12 arg12 _ _)
    (congrArg (cut V0) (read_zero13 arg13 _)) (read_right13 arg13 _ _)

end

section
variable (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole)
  (arg1 v12 : BitVec 32) (v74 v79 : FVec F S512x256 .bf16) (v109 : FVec F S512x512 .bf16) (v113 : FVec F S512x128 .f32)
  (v114 : Vec F S512x128 .f32) (v131 : BitVec 32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)

/-- A loop with no trips leaves what it found. -/
theorem no_trips {α : Type _} (f : ℕ → α) (z : α) (h : f 0 = z) : f (Scf.trips (k0_t2_loop i).lb (k0_t2_loop i).ub (k0_t2_loop i).st) = z :=
  (congrArg f (Nat.le_zero.mp (k0_t2_abs i).2.1)).trans h

set_option maxHeartbeats 4000000 in
/-- A point's stores: `L11 L12 L13` before the first loop, then its trips, then none (`P`). -/
theorem read_point (a : Acc F) (f11 : BufTy.Contents (Elt F) arg11.view.ty) (f12 : BufTy.Contents (Elt F) arg12.view.ty) (f13 : BufTy.Contents (Elt F) arg13.view.ty) (L11 L12 L13)
    (P : List (View.Piece (Elt F) S4096x512 .f32) × List (View.Piece (Elt F) S512x512 .f32) × List (View.Piece (Elt F) S512x256 .f32)) (hP : P = ([], [], []))
    (hd : accOf arg11 arg12 arg13 (arg11.view.writes (Elt F) f11 L11) (arg12.view.writes (Elt F) f12 L12) (arg13.view.writes (Elt F) f13 L13)
      = diag i (blksOf arg2 arg3 arg4 arg5 arg6 arg7 X2 X3 X4 X5 X6 X7) ⟨a.dq, k0_pay34, k0_pay35⟩) :
    accOf arg11 arg12 arg13
      (arg11.view.writes (Elt F) f11 (P.1 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 (arg11.view.writes (Elt F) f11 L11) (arg12.view.writes (Elt F) f12 L12) (arg13.view.writes (Elt F) f13 L13) (Scf.trips (k0_t1_loop i).lb (k0_t1_loop i).ub (k0_t1_loop i).st)).1 ++ L11)))
      (arg12.view.writes (Elt F) f12 (P.2.1 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 (arg11.view.writes (Elt F) f11 L11) (arg12.view.writes (Elt F) f12 L12) (arg13.view.writes (Elt F) f13 L13) (Scf.trips (k0_t1_loop i).lb (k0_t1_loop i).ub (k0_t1_loop i).st)).2.1 ++ L12)))
      (arg13.view.writes (Elt F) f13 (P.2.2 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 (arg11.view.writes (Elt F) f11 L11) (arg12.view.writes (Elt F) f12 L12) (arg13.view.writes (Elt F) f13 L13) (Scf.trips (k0_t1_loop i).lb (k0_t1_loop i).ub (k0_t1_loop i).st)).2.2 ++ L13)))
    = point i (blksOf arg2 arg3 arg4 arg5 arg6 arg7 X2 X3 X4 X5 X6 X7) a.dq := by
  subst hP
  simp only [List.nil_append]
  rw [View.writes_append, View.writes_append, View.writes_append]
  refine (read_trips 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 _ _ _ _ (le_refl _)).trans ?_
  rw [hd]
  rfl

/-- What is left in the queries'umulator. -/
theorem read_point_dq (a : Acc F) (f11 : BufTy.Contents (Elt F) arg11.view.ty) (f12 : BufTy.Contents (Elt F) arg12.view.ty) (f13 : BufTy.Contents (Elt F) arg13.view.ty) (L11 L12 L13)
    (P : List (View.Piece (Elt F) S4096x512 .f32) × List (View.Piece (Elt F) S512x512 .f32) × List (View.Piece (Elt F) S512x256 .f32)) (hP : P = ([], [], []))
    (hd : accOf arg11 arg12 arg13 (arg11.view.writes (Elt F) f11 L11) (arg12.view.writes (Elt F) f12 L12) (arg13.view.writes (Elt F) f13 L13)
      = diag i (blksOf arg2 arg3 arg4 arg5 arg6 arg7 X2 X3 X4 X5 X6 X7) ⟨a.dq, k0_pay34, k0_pay35⟩) :
    arg11.view.read (Elt F) (arg11.view.writes (Elt F) f11 (P.1 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 (arg11.view.writes (Elt F) f11 L11) (arg12.view.writes (Elt F) f12 L12) (arg13.view.writes (Elt F) f13 L13) (Scf.trips (k0_t1_loop i).lb (k0_t1_loop i).ub (k0_t1_loop i).st)).1 ++ L11)))
    = (point i (blksOf arg2 arg3 arg4 arg5 arg6 arg7 X2 X3 X4 X5 X6 X7) a.dq).dq :=
  congrArg Acc.dq (read_point 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 a f11 f12 f13 L11 L12 L13 P hP hd)

/-- In the keys'umulator. -/
theorem read_point_dk (a : Acc F) (f11 : BufTy.Contents (Elt F) arg11.view.ty) (f12 : BufTy.Contents (Elt F) arg12.view.ty) (f13 : BufTy.Contents (Elt F) arg13.view.ty) (L11 L12 L13)
    (P : List (View.Piece (Elt F) S4096x512 .f32) × List (View.Piece (Elt F) S512x512 .f32) × List (View.Piece (Elt F) S512x256 .f32)) (hP : P = ([], [], []))
    (hd : accOf arg11 arg12 arg13 (arg11.view.writes (Elt F) f11 L11) (arg12.view.writes (Elt F) f12 L12) (arg13.view.writes (Elt F) f13 L13)
      = diag i (blksOf arg2 arg3 arg4 arg5 arg6 arg7 X2 X3 X4 X5 X6 X7) ⟨a.dq, k0_pay34, k0_pay35⟩) :
    arg12.view.read (Elt F) (arg12.view.writes (Elt F) f12 (P.2.1 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 (arg11.view.writes (Elt F) f11 L11) (arg12.view.writes (Elt F) f12 L12) (arg13.view.writes (Elt F) f13 L13) (Scf.trips (k0_t1_loop i).lb (k0_t1_loop i).ub (k0_t1_loop i).st)).2.1 ++ L12)))
    = (point i (blksOf arg2 arg3 arg4 arg5 arg6 arg7 X2 X3 X4 X5 X6 X7) a.dq).dk :=
  congrArg Acc.dk (read_point 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 a f11 f12 f13 L11 L12 L13 P hP hd)

/-- In the values'umulator. -/
theorem read_point_dv (a : Acc F) (f11 : BufTy.Contents (Elt F) arg11.view.ty) (f12 : BufTy.Contents (Elt F) arg12.view.ty) (f13 : BufTy.Contents (Elt F) arg13.view.ty) (L11 L12 L13)
    (P : List (View.Piece (Elt F) S4096x512 .f32) × List (View.Piece (Elt F) S512x512 .f32) × List (View.Piece (Elt F) S512x256 .f32)) (hP : P = ([], [], []))
    (hd : accOf arg11 arg12 arg13 (arg11.view.writes (Elt F) f11 L11) (arg12.view.writes (Elt F) f12 L12) (arg13.view.writes (Elt F) f13 L13)
      = diag i (blksOf arg2 arg3 arg4 arg5 arg6 arg7 X2 X3 X4 X5 X6 X7) ⟨a.dq, k0_pay34, k0_pay35⟩) :
    arg13.view.read (Elt F) (arg13.view.writes (Elt F) f13 (P.2.2 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 (arg11.view.writes (Elt F) f11 L11) (arg12.view.writes (Elt F) f12 L12) (arg13.view.writes (Elt F) f13 L13) (Scf.trips (k0_t1_loop i).lb (k0_t1_loop i).ub (k0_t1_loop i).st)).2.2 ++ L13)))
    = (point i (blksOf arg2 arg3 arg4 arg5 arg6 arg7 X2 X3 X4 X5 X6 X7) a.dq).dv :=
  congrArg Acc.dv (read_point 𝒱 c bd i arg2 harg2 arg3 harg3 arg4 harg4 arg5 harg5 arg6 harg6 arg7 harg7 arg8 harg8 arg9 harg9 arg10 harg10 arg11 harg11 arg12 harg12 arg13 harg13 arg1 v12 v74 v79 v109 v113 v114 v131 X2 X3 X4 X5 X6 X7 a f11 f12 f13 L11 L12 L13 P hP hd)

end

end Cert.KernelIdeal.Gen

end
-- ==== Proof.KernelIdeal.BodyA.lean ====
/- At the first key block: the queries' gradient is set to zero and begun, and the block's buffer left alone. -/
module

public import proofs.«01_k».proof.Proof.KernelIdeal.Stores

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Rects

set_option maxHeartbeats 4000000 in
/-- At the first key block: the queries' gradient is set to zero and begun, and the block's buffer left alone. -/
theorem bodyA (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole)
    (hc0 : (Scalar.cmpi .ne (Scalar.extui (Scalar.cmpi .eq (BitVec.ofNat 32 (i 1).val) 0#32)) 0#32) = 1#1) (hc1 : ¬ k0_cond2 i = 1#1)
    (x2 : Vec F S4096x512 .bf16) (x3 : Vec F S512x512 .bf16) (x4 : Vec F S512x256 .bf16) (x5 : Vec F S4096x256 .bf16) (x6 x7 : Vec F S4096x256 .f32)
    (x8 : Vec F S4096x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
       ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay62 (point i ⟨x2, x3, x4, x5, x6, x7⟩ k0_pay33).dk) ∗ owns (c : Thread nD τ) arg10 fullShare (k0_pay1 (point i ⟨x2, x3, x4, x5, x6, x7⟩ k0_pay33).dv) ∗ owns (c : Thread nD τ) arg11 fullShare (point i ⟨x2, x3, x4, x5, x6, x7⟩ k0_pay33).dq ∗ (∃ d, owns (c : Thread nD τ) arg12 fullShare d) ∗ (∃ d, owns (c : Thread nD τ) arg13 fullShare d)) -∗ K ⟨⟩))
    ⊢ wp frame (wpE (defs₀ (F := F)) Variants.none c none) E (cc0_mla_flash_bwd i arg2 harg2 arg3 harg3 arg4 harg4 arg5 harg5 arg6 harg6 arg7 harg7 arg8 harg8 arg9 harg9 arg10 harg10 arg11 harg11 arg12 harg12 arg13 harg13) K := by
  simp only [cc0_mla_flash_bwd_eq_skeleton]; unfold cc0_mla_flash_bwd_skel
  simp only [k0_part5_eq_skeleton, k0_part6_eq_skeleton, k0_part7_eq_skeleton, k0_part8_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, Hk⟩
  subst h2; subst h3; subst h4; subst h5; subst h6; subst h7; subst h8
  sl_exec (disch := first | sl_exact hc0 | sl_exact hc1)
  sl_step
  iapply Hk
  isplitl [H2]
  · iexists _; isplitr; swap
    · iexact H2
    ipureintro; exact rfl
  isplitl [H3]
  · iexists _; isplitr; swap
    · iexact H3
    ipureintro; exact rfl
  isplitl [H4]
  · iexists _; isplitr; swap
    · iexact H4
    ipureintro; exact rfl
  isplitl [H5]
  · iexists _; isplitr; swap
    · iexact H5
    ipureintro; exact rfl
  isplitl [H6]
  · iexists _; isplitr; swap
    · iexact H6
    ipureintro; exact rfl
  isplitl [H7]
  · iexists _; isplitr; swap
    · iexact H7
    ipureintro; exact rfl
  isplitl [H8]
  · iexists _; isplitr; swap
    · iexact H8
    ipureintro; exact rfl
  isplitl [H9]
  · iexists _; isplitr; swap
    · iexact H9
    ipureintro
    refine (read_writes_cons _ _ _ _ _).trans ((over_whole _ _ _ _).trans (congrArg k0_pay62 ((readAt_whole _ _ _ _).trans ?_)))
    refine read_point_dk Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨k0_pay33, k0_pay34, k0_pay35⟩ _ _ _ _ _ _ _ ?_ ?_
    · exact no_trips i _ _ rfl
    exact read_begun i (blksOf arg2 arg3 arg4 arg5 arg6 arg7 f2 f3 f4 f5 f6 f7) arg11 arg12 arg13
  isplitl [H10]
  · iexists _; isplitr; swap
    · iexact H10
    ipureintro
    refine (read_writes_cons _ _ _ _ _).trans ((over_whole _ _ _ _).trans (congrArg k0_pay1 ((readAt_whole _ _ _ _).trans ?_)))
    refine read_point_dv Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨k0_pay33, k0_pay34, k0_pay35⟩ _ _ _ _ _ _ _ ?_ ?_
    · exact no_trips i _ _ rfl
    exact read_begun i (blksOf arg2 arg3 arg4 arg5 arg6 arg7 f2 f3 f4 f5 f6 f7) arg11 arg12 arg13
  isplitl [H11]
  · iexists _; isplitr; swap
    · iexact H11
    ipureintro
    refine read_point_dq Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨k0_pay33, k0_pay34, k0_pay35⟩ _ _ _ _ _ _ _ ?_ ?_
    · exact no_trips i _ _ rfl
    exact read_begun i (blksOf arg2 arg3 arg4 arg5 arg6 arg7 f2 f3 f4 f5 f6 f7) arg11 arg12 arg13
  isplitl [H12]
  · iexists _; iexists _; isplitr; swap
    · iexact H12
    ipureintro; exact rfl
  iexists _; iexists _; isplitr; swap
  · iexact H13
  ipureintro; exact rfl

end Cert.KernelIdeal.Gen

end
-- ==== Proof.KernelIdeal.BodyB.lean ====
/- At a key block that is neither first nor last: the queries' gradient is carried on. -/
module

public import proofs.«01_k».proof.Proof.KernelIdeal.Stores

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Rects

set_option maxHeartbeats 4000000 in
/-- At a key block that is neither first nor last: the queries' gradient is carried on. -/
theorem bodyB (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole)
    (hc0 : ¬ (Scalar.cmpi .ne (Scalar.extui (Scalar.cmpi .eq (BitVec.ofNat 32 (i 1).val) 0#32)) 0#32) = 1#1) (hc1 : ¬ k0_cond2 i = 1#1)
    (x2 : Vec F S4096x512 .bf16) (x3 : Vec F S512x512 .bf16) (x4 : Vec F S512x256 .bf16) (x5 : Vec F S4096x256 .bf16) (x6 x7 : Vec F S4096x256 .f32)
    (x8 : Vec F S4096x512 .bf16) (x11 : Vec F S4096x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ (∃ d, owns (c : Thread nD τ) arg13 fullShare d)
       ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay62 (point i ⟨x2, x3, x4, x5, x6, x7⟩ x11).dk) ∗ owns (c : Thread nD τ) arg10 fullShare (k0_pay1 (point i ⟨x2, x3, x4, x5, x6, x7⟩ x11).dv) ∗ owns (c : Thread nD τ) arg11 fullShare (point i ⟨x2, x3, x4, x5, x6, x7⟩ x11).dq ∗ (∃ d, owns (c : Thread nD τ) arg12 fullShare d) ∗ (∃ d, owns (c : Thread nD τ) arg13 fullShare d)) -∗ K ⟨⟩))
    ⊢ wp frame (wpE (defs₀ (F := F)) Variants.none c none) E (cc0_mla_flash_bwd i arg2 harg2 arg3 harg3 arg4 harg4 arg5 harg5 arg6 harg6 arg7 harg7 arg8 harg8 arg9 harg9 arg10 harg10 arg11 harg11 arg12 harg12 arg13 harg13) K := by
  simp only [cc0_mla_flash_bwd_eq_skeleton]; unfold cc0_mla_flash_bwd_skel
  simp only [k0_part5_eq_skeleton, k0_part6_eq_skeleton, k0_part7_eq_skeleton, k0_part8_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%f11, %h11, H11⟩, ⟨%d12, %f12, -, H12⟩, ⟨%d13, %f13, -, H13⟩, Hk⟩
  subst h2; subst h3; subst h4; subst h5; subst h6; subst h7; subst h8; subst h11
  sl_exec (disch := first | sl_exact hc0 | sl_exact hc1)
  sl_step
  iapply Hk
  isplitl [H2]
  · iexists _; isplitr; swap
    · iexact H2
    ipureintro; exact rfl
  isplitl [H3]
  · iexists _; isplitr; swap
    · iexact H3
    ipureintro; exact rfl
  isplitl [H4]
  · iexists _; isplitr; swap
    · iexact H4
    ipureintro; exact rfl
  isplitl [H5]
  · iexists _; isplitr; swap
    · iexact H5
    ipureintro; exact rfl
  isplitl [H6]
  · iexists _; isplitr; swap
    · iexact H6
    ipureintro; exact rfl
  isplitl [H7]
  · iexists _; isplitr; swap
    · iexact H7
    ipureintro; exact rfl
  isplitl [H8]
  · iexists _; isplitr; swap
    · iexact H8
    ipureintro; exact rfl
  isplitl [H9]
  · iexists _; isplitr; swap
    · iexact H9
    ipureintro
    refine (read_writes_cons _ _ _ _ _).trans ((over_whole _ _ _ _).trans (congrArg k0_pay62 ((readAt_whole _ _ _ _).trans ?_)))
    refine read_point_dk Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H10]
  · iexists _; isplitr; swap
    · iexact H10
    ipureintro
    refine (read_writes_cons _ _ _ _ _).trans ((over_whole _ _ _ _).trans (congrArg k0_pay1 ((readAt_whole _ _ _ _).trans ?_)))
    refine read_point_dv Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H11]
  · iexists _; isplitr; swap
    · iexact H11
    ipureintro
    refine read_point_dq Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H12]
  · iexists _; iexists _; isplitr; swap
    · iexact H12
    ipureintro; exact rfl
  iexists _; iexists _; isplitr; swap
  · iexact H13
  ipureintro; exact rfl

end Cert.KernelIdeal.Gen

end
-- ==== Proof.KernelIdeal.BodyC.lean ====
/- At the last key block: the queries' gradient is carried on, finished and stored. -/
module

public import proofs.«01_k».proof.Proof.KernelIdeal.Stores

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Rects

set_option maxHeartbeats 4000000 in
/-- At the last key block: the queries' gradient is carried on, finished and stored. -/
theorem bodyC (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S4096x256 .f32) (harg7 : arg7.IsWhole) (arg8 : Memref sig .tc .vmem S4096x512 .bf16) (harg8 : arg8.IsWhole) (arg9 : Memref sig .tc .vmem S512x512 .bf16) (harg9 : arg9.IsWhole) (arg10 : Memref sig .tc .vmem S512x256 .bf16) (harg10 : arg10.IsWhole) (arg11 : Memref sig .tc .vmem S4096x512 .f32) (harg11 : arg11.IsWhole) (arg12 : Memref sig .tc .vmem S512x512 .f32) (harg12 : arg12.IsWhole) (arg13 : Memref sig .tc .vmem S512x256 .f32) (harg13 : arg13.IsWhole)
    (hc0 : ¬ (Scalar.cmpi .ne (Scalar.extui (Scalar.cmpi .eq (BitVec.ofNat 32 (i 1).val) 0#32)) 0#32) = 1#1) (hc1 : k0_cond2 i = 1#1)
    (x2 : Vec F S4096x512 .bf16) (x3 : Vec F S512x512 .bf16) (x4 : Vec F S512x256 .bf16) (x5 : Vec F S4096x256 .bf16) (x6 x7 : Vec F S4096x256 .f32)
    (x11 : Vec F S4096x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ (∃ d, owns (c : Thread nD τ) arg13 fullShare d)
       ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay2 (point i ⟨x2, x3, x4, x5, x6, x7⟩ x11).dq) ∗ owns (c : Thread nD τ) arg9 fullShare (k0_pay62 (point i ⟨x2, x3, x4, x5, x6, x7⟩ x11).dk) ∗ owns (c : Thread nD τ) arg10 fullShare (k0_pay1 (point i ⟨x2, x3, x4, x5, x6, x7⟩ x11).dv) ∗ owns (c : Thread nD τ) arg11 fullShare (point i ⟨x2, x3, x4, x5, x6, x7⟩ x11).dq ∗ (∃ d, owns (c : Thread nD τ) arg12 fullShare d) ∗ (∃ d, owns (c : Thread nD τ) arg13 fullShare d)) -∗ K ⟨⟩))
    ⊢ wp frame (wpE (defs₀ (F := F)) Variants.none c none) E (cc0_mla_flash_bwd i arg2 harg2 arg3 harg3 arg4 harg4 arg5 harg5 arg6 harg6 arg7 harg7 arg8 harg8 arg9 harg9 arg10 harg10 arg11 harg11 arg12 harg12 arg13 harg13) K := by
  simp only [cc0_mla_flash_bwd_eq_skeleton]; unfold cc0_mla_flash_bwd_skel
  simp only [k0_part5_eq_skeleton, k0_part6_eq_skeleton, k0_part7_eq_skeleton, k0_part8_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%f11, %h11, H11⟩, ⟨%d12, %f12, -, H12⟩, ⟨%d13, %f13, -, H13⟩, Hk⟩
  subst h2; subst h3; subst h4; subst h5; subst h6; subst h7; subst h11
  sl_exec (disch := first | sl_exact hc0 | sl_exact hc1)
  sl_step
  iapply Hk
  isplitl [H2]
  · iexists _; isplitr; swap
    · iexact H2
    ipureintro; exact rfl
  isplitl [H3]
  · iexists _; isplitr; swap
    · iexact H3
    ipureintro; exact rfl
  isplitl [H4]
  · iexists _; isplitr; swap
    · iexact H4
    ipureintro; exact rfl
  isplitl [H5]
  · iexists _; isplitr; swap
    · iexact H5
    ipureintro; exact rfl
  isplitl [H6]
  · iexists _; isplitr; swap
    · iexact H6
    ipureintro; exact rfl
  isplitl [H7]
  · iexists _; isplitr; swap
    · iexact H7
    ipureintro; exact rfl
  isplitl [H8]
  · iexists _; isplitr; swap
    · iexact H8
    ipureintro
    refine (read_writes_cons _ _ _ _ _).trans ((over_whole _ _ _ _).trans (congrArg k0_pay2 ((readAt_whole _ _ _ _).trans ?_)))
    refine read_point_dq Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H9]
  · iexists _; isplitr; swap
    · iexact H9
    ipureintro
    refine (read_writes_cons _ _ _ _ _).trans ((over_whole _ _ _ _).trans (congrArg k0_pay62 ((readAt_whole _ _ _ _).trans ?_)))
    refine read_point_dk Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H10]
  · iexists _; isplitr; swap
    · iexact H10
    ipureintro
    refine (read_writes_cons _ _ _ _ _).trans ((over_whole _ _ _ _).trans (congrArg k0_pay1 ((readAt_whole _ _ _ _).trans ?_)))
    refine read_point_dv Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H11]
  · iexists _; isplitr; swap
    · iexact H11
    ipureintro
    refine read_point_dq Variants.none c none i arg2 harg2 arg3 harg3 arg4 harg4 arg5 harg5 arg6 harg6 arg7 harg7 arg8 harg8 arg9 harg9 arg10 harg10 arg11 harg11 arg12 harg12 arg13 harg13 _ _ _ _ _ _ _ _ f2 f3 f4 f5 f6 f7 ⟨arg11.view.read (Elt F) f11, k0_pay34, k0_pay35⟩ _ _ _ _ _ _ _ ?_ ?_
    · exact no_trips i _ _ rfl
    exact read_carried i (blksOf arg2 arg3 arg4 arg5 arg6 arg7 f2 f3 f4 f5 f6 f7) arg11 arg12 arg13 f11
  isplitl [H12]
  · iexists _; iexists _; isplitr; swap
    · iexact H12
    ipureintro; exact rfl
  iexists _; iexists _; isplitr; swap
  · iexact H13
  ipureintro; exact rfl

end Cert.KernelIdeal.Gen

end
-- ==== Proof.KernelIdeal.Run.lean ====
/- The launch: what every grid point leaves (`pointAt`), the pipeline's proof data, the body's triple at every point
   (`sound_body`), and the run of the whole program (`run_main`), from which the frame follows. -/
module

public import proofs.«01_k».proof.Proof.KernelIdeal.BodyA
public import proofs.«01_k».proof.Proof.KernelIdeal.BodyB
public import proofs.«01_k».proof.Proof.KernelIdeal.BodyC
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions -/

/-- The first key block of a head pair, -/
def cond0_0 (i : grid0.Coords) : Prop := (Scalar.cmpi .ne (Scalar.extui (Scalar.cmpi .eq (BitVec.ofNat 32 (i 1).val) 0#32)) 0#32) = 1#1
/-- and its last one. -/
def cond0_1 (i : grid0.Coords) : Prop := k0_cond2 i = 1#1

theorem hcond0_0 (t : Fin cfg0.N) : cond0_0 (grid0.coords t) ↔ t.val % 8 = 0 :=
  (fun t => by
    have ht : t.val < 32 := Nat.lt_of_lt_of_eq t.isLt N_0
    have e1 : (grid0.coords t 1).val = t.val / 1 % 8 := Pipeline.Grid.coords_val t 1 (by decide) rfl
    simp only [cond0_0, e1]
    word_cmp
   : ∀ t : Fin grid0.N, cond0_0 (grid0.coords t) ↔ t.val % 8 = 0) t

theorem hcond0_1 (t : Fin cfg0.N) : cond0_1 (grid0.coords t) ↔ t.val % 8 = 7 :=
  (fun t => by
    have ht : t.val < 32 := Nat.lt_of_lt_of_eq t.isLt N_0
    have e1 : (grid0.coords t 1).val = t.val / 1 % 8 := Pipeline.Grid.coords_val t 1 (by decide) rfl
    simp only [cond0_1, k0_cond2, e1]
    word_cmp
   : ∀ t : Fin grid0.N, cond0_1 (grid0.coords t) ↔ t.val % 8 = 7) t

/-! ## Where the windows are idle: the queries' gradient but at a last key block -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_6 : ∀ t : Fin cfg0.N, cond0_1 (grid0.coords t) → cfg0.idle 6 (grid0.coords t) = false := by unfold cond0_1; decide +kernel
theorem idleAt0_6 : ∀ t : Fin cfg0.N, ¬cond0_1 (grid0.coords t) → cfg0.idle 6 (grid0.coords t) = true := by unfold cond0_1; decide +kernel
theorem noFlush0_6 : ∀ t : Fin cfg0.N, ¬cond0_1 (grid0.coords t) → (cfg0.win 6).flush t = false := by unfold cond0_1; decide +kernel

/-! ## The memory a point runs on -/

abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
/-- The accumulators. -/
abbrev scM0_0 : Memref sig .tc .vmem S4096x512 .f32 := Memref.whole cc0_scratch0
abbrev scM0_1 : Memref sig .tc .vmem S512x512 .f32 := Memref.whole cc0_scratch1
abbrev scM0_2 : Memref sig .tc .vmem S512x256 .f32 := Memref.whole cc0_scratch2

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the points leave -/

/-- The blocks of point `t`. -/
def blks (c : Dev nD) (t : Fin cfg0.N) : Blks F :=
  ⟨iblk m c 0 t, iblk m c 1 t, iblk m c 2 t, iblk m c 3 t, iblk m c 4 t, iblk m c 5 t⟩

/-- The accumulators after point `n`: the queries' gradient is carried on from the point before, but for a head pair's first. -/
def pointAt (c : Dev nD) : (n : ℕ) → n < cfg0.N → Acc F
  | 0, hn => point (grid0.coords ⟨0, hn⟩) (blks m c ⟨0, hn⟩) k0_pay33
  | n + 1, hn => point (grid0.coords ⟨n + 1, hn⟩) (blks m c ⟨n + 1, hn⟩)
      (if (n + 1) % 8 = 0 then k0_pay33 else (pointAt c n (Nat.lt_of_succ_lt hn)).dq)

theorem pointAt_first (c : Dev nD) (t : Fin cfg0.N) (h0 : t.val % 8 = 0) :
    pointAt m c t.val t.isLt = point (grid0.coords t) (blks m c t) k0_pay33 := by
  obtain ⟨n, hn⟩ := t
  cases n with
  | zero => rfl
  | succ n => exact congrArg (point _ _) (if_pos h0)

theorem pointAt_next (c : Dev nD) (t : Fin cfg0.N) (h0 : ¬t.val % 8 = 0) :
    pointAt m c t.val t.isLt
      = point (grid0.coords t) (blks m c t) (pointAt m c (t.val - 1) (Nat.lt_of_le_of_lt (Nat.sub_le _ _) t.isLt)).dq := by
  obtain ⟨n, hn⟩ := t
  cases n with
  | zero => exact absurd (Nat.zero_mod _) h0
  | succ n => exact congrArg (point _ _) (if_neg h0)

/-- Between points the queries' accumulator is at what the point before left, the others at anything. -/
def PhiS (c : Dev nD) : (n : ℕ) → n ≤ cfg0.N → sProp 𝕄
  | 0, _ => Pipeline.ΦA spec0 c
  | n + 1, hn => iprop(iprop(owns (c : Thread nD τ) scM0_0 fullShare (pointAt m c n hn).dq ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (pointAt m c n hn).dq ∗ (∃ d, owns (c : Thread nD τ) scM0_1 fullShare d) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (pointAt m c (n - 1) (by omega)).dq ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (pointAt m c t.val t.isLt).dq
    | ⟨7, _⟩ => k0_pay62 (pointAt m c t.val t.isLt).dk
    | ⟨8, _⟩ => k0_pay1 (pointAt m c t.val t.isLt).dv
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay2 (pointAt m c t.val t.isLt).dq := by dsimp only [dats]
theorem after0_7 (c : Dev nD) (t : Fin cfg0.N) : (dats m 0 c).after 7 t = k0_pay62 (pointAt m c t.val t.isLt).dk := by dsimp only [dats]
theorem after0_8 (c : Dev nD) (t : Fin cfg0.N) : (dats m 0 c).after 8 t = k0_pay1 (pointAt m c t.val t.isLt).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 4800000 in
/-- The body at any point, by where it lies among its head pair's key blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [Dat.leavesExact_idle (dats m 0 c) 6 t (idleAt0_6 t (fun h => h1 ((hcond0_1 t).mp h))) (noFlush0_6 t (fun h => h1 ((hcond0_1 t).mp h)))]
    rw [show (dats m 0 c).leavesExact 7 t = owns (c : Thread nD τ) (ms0_7 t) fullShare ((dats m 0 c).after 7 t) from by
        unfold Dat.leavesExact; rw [liveAt0_7 t], after0_7]
    rw [show (dats m 0 c).leavesExact 8 t = owns (c : Thread nD τ) (ms0_8 t) fullShare ((dats m 0 c).after 8 t) from by
        unfold Dat.leavesExact; rw [liveAt0_8 t], after0_8]
    rw [PhiS_castSucc m c t]
    by_cases hz : t.val = 0
    · rw [PhiS_zero m c _ _ hz, PhiA0_eq]
      rw [pointAt_first m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iexact H8
    · rw [PhiS_pos m c _ _ hz]
      rw [pointAt_first m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyA c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iexact H8
  · by_cases h1 : t.val % 8 = 7
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [PhiS_castSucc m c t]
      have hz : t.val ≠ 0 := fun h => h0 (by rw [h])
      rw [PhiS_pos m c _ _ hz]
      rw [pointAt_next m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyC c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [PhiS_castSucc m c t]
      have hz : t.val ≠ 0 := fun h => h0 (by rw [h])
      rw [PhiS_pos m c _ _ hz]
      rw [pointAt_next m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyB c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]; · iexact HS1
    iexact HS2
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The launch: every execution ends, each array at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Reals.lean ====
/- Arrays of extended reals that hold real numbers only: such an array of two axes is described by a
   function of two natural numbers, its coordinates. -/
module

public import Idealize.ShloMosaic.Lib.Pointwise
public import Idealize.ShloMosaic.Lib.ValueIdx

@[expose] public section

noncomputable section

namespace Cert.Reals

open Idealize.ShloMosaic
open scoped BigOperators

/-- The array `a` holds the real number `A r c` at row `r`, column `c`. -/
def Is {n0 n1 : ℕ} (a : (⟨2, ![n0, n1]⟩ : Shape).Idx → EReal) (A : ℕ → ℕ → ℝ) : Prop :=
  ∀ i, a i = ((A (i 0).val (i 1).val : ℝ) : EReal)

/-- A sum of real numbers among the extended reals is their sum. -/
theorem coe_sum {ι : Type*} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A sum over a finite range of products of real numbers. -/
theorem sum_mul_coe {n : ℕ} (f g : ℕ → ℝ) :
    ∑ k : Fin n, (f k.val : EReal) * (g k.val : EReal) = ((∑ k ∈ Finset.range n, f k * g k : ℝ) : EReal) := by
  rw [Finset.sum_range, ← coe_sum]
  exact Finset.sum_congr rfl fun k _ => (EReal.coe_mul _ _).symm

/-- A sum over a finite range of real numbers. -/
theorem sum_coe {n : ℕ} (f : ℕ → ℝ) :
    ∑ k : Fin n, (f k.val : EReal) = ((∑ k ∈ Finset.range n, f k : ℝ) : EReal) := by
  rw [Finset.sum_range, ← coe_sum]

/-- A quotient of real numbers with a divisor other than zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The logarithm of a positive real number. -/
theorem log_coe (x : ℝ) (h : 0 < x) : Ideal.log (x : EReal) = ((Real.log x : ℝ) : EReal) := by
  show (if x ≤ 0 then (⊥ : EReal) else _) = _
  rw [if_neg (not_le.mpr h)]

/-- A product over a longer range whose later terms vanish. -/
theorem sum_range_of_zero {n m : ℕ} (h : n ≤ m) (f : ℕ → ℝ) (hf : ∀ k, n ≤ k → k < m → f k = 0) :
    ∑ k ∈ Finset.range m, f k = ∑ k ∈ Finset.range n, f k := by
  symm
  refine Finset.sum_subset (Finset.range_subset_range.mpr h) fun k hk hk' => hf k ?_ ?_
  · simpa using hk'
  · simpa using hk

/-- A range continued by one block. -/
theorem sum_range_block (n m : ℕ) (f : ℕ → ℝ) :
    ∑ k ∈ Finset.range (n + m), f k = ∑ k ∈ Finset.range n, f k + ∑ k ∈ Finset.range m, f (n + k) :=
  Finset.sum_range_add f n m

end Cert.Reals

end
-- ==== Proof.KernelIdeal.Tile.lean ====
/- The kernel's block arithmetic over real numbers: the products of blocks, the probabilities of a pair of
   blocks and their gradient, with the mask and without it, and what each store adds to an accumulator. -/
module

public import proofs.«01_k».proof.Proof.KernelIdeal.Step
public import proofs.«01_k».proof.Proof.Reals

@[expose] public section

set_option maxRecDepth 16384

noncomputable section

namespace Cert.KernelIdeal.Gen

open Idealize.ShloMosaic Cert.Reals Cert.Rects
open scoped BigOperators

/-- A product over the lanes of both operands, 256 lanes, -/
theorem nt256 (a : FVec Ideal S512x256 .bf16) (b : FVec Ideal S512x256 .bf16) (A B : ℕ → ℕ → ℝ) (ha : Is a A) (hb : Is b B) :
    Is (matmul dot_S512x256_S512x256_S512x512_1_1_0_0_n_n none a b (constant S512x512 .f32 0x00000000#32))
      (fun r k => ∑ c ∈ Finset.range 256, A r c * B k c) := by
  intro i
  simp only [pointwise]
  rw [← sum_mul_coe]
  simp only [ha _, hb _]
  exact zero_add _

/-- 128 lanes; -/
theorem nt128 (a : FVec Ideal S512x128 .bf16) (b : FVec Ideal S512x128 .bf16) (A B : ℕ → ℕ → ℝ) (ha : Is a A) (hb : Is b B) :
    Is (matmul dot_S512x128_S512x128_S512x512_1_1_0_0_n_n none a b (constant S512x512 .f32 0x00000000#32))
      (fun r k => ∑ c ∈ Finset.range 128, A r c * B k c) := by
  intro i
  simp only [pointwise]
  rw [← sum_mul_coe]
  simp only [ha _, hb _]
  exact zero_add _

/-- over the rows of both operands, 128 columns, -/
theorem tn128 (a : FVec Ideal S512x512 .bf16) (b : FVec Ideal S512x128 .bf16) (A B : ℕ → ℕ → ℝ) (ha : Is a A) (hb : Is b B) :
    Is (matmul dot_S512x512_S512x128_S512x128_0_0_1_1_n_n none a b (constant S512x128 .f32 0x00000000#32))
      (fun k c => ∑ r ∈ Finset.range 512, A r k * B r c) := by
  intro i
  simp only [pointwise]
  rw [← sum_mul_coe]
  simp only [ha _, hb _]
  exact zero_add _

/-- 256 columns; -/
theorem tn256 (a : FVec Ideal S512x512 .bf16) (b : FVec Ideal S512x256 .bf16) (A B : ℕ → ℕ → ℝ) (ha : Is a A) (hb : Is b B) :
    Is (matmul dot_S512x512_S512x256_S512x256_0_0_1_1_n_n none a b (constant S512x256 .f32 0x00000000#32))
      (fun k c => ∑ r ∈ Finset.range 512, A r k * B r c) := by
  intro i
  simp only [pointwise]
  rw [← sum_mul_coe]
  simp only [ha _, hb _]
  exact zero_add _

/-- and the plain product. -/
theorem nn256 (a : FVec Ideal S512x512 .bf16) (b : FVec Ideal S512x256 .bf16) (A B : ℕ → ℕ → ℝ) (ha : Is a A) (hb : Is b B) :
    Is (matmul dot_S512x512_S512x256_S512x256_1_0_0_1_n_n none a b (constant S512x256 .f32 0x00000000#32))
      (fun r c => ∑ k ∈ Finset.range 512, A r k * B k c) := by
  intro i
  simp only [pointwise]
  rw [← sum_mul_coe]
  simp only [ha _, hb _]
  exact zero_add _

section
variable {s : Shape} {φ : FTy}
theorem addf_at (a b : FVec Ideal s φ) (i : s.Idx) : addf a b i = (a i + b i : EReal) := rfl
theorem subf_at (a b : FVec Ideal s φ) (i : s.Idx) : subf a b i = (a i - b i : EReal) := rfl
theorem mulf_at (a b : FVec Ideal s φ) (i : s.Idx) : mulf a b i = (a i * b i : EReal) := rfl
theorem exp2_at (a : FVec Ideal s φ) (i : s.Idx) : exp2 a i = Ideal.exp2 (a i) := rfl
theorem select_at {α : Type} (c : IVec s 1) (a b : s.Idx → α) (i : s.Idx) : select c a b i = Scalar.select (c i) (a i) (b i) := rfl
theorem truncf_at (a : FVec Ideal s .f32) (h : FTy.bits .bf16 < FTy.bits .f32) (i : s.Idx) :
    (truncf .bf16 a h : FVec Ideal s .bf16) i = a i := rfl
end

/-- Four copies side by side of an array whose columns are all the same. -/
theorem wide (x : FVec Ideal S512x128 .f32) (L : ℕ → ℝ) (hx : Is x fun r _ => L r) :
    Is (concatenate S512x512 1
      [⟨S512x128, shapeCast S512x128 x shapeCasts_S512x128_S512x128⟩,
        ⟨S512x128, shapeCast S512x128 x shapeCasts_S512x128_S512x128⟩,
        ⟨S512x128, shapeCast S512x128 x shapeCasts_S512x128_S512x128⟩,
        ⟨S512x128, shapeCast S512x128 x shapeCasts_S512x128_S512x128⟩]
      concatenates_S512x128_S512x128_S512x128_S512x128_S512x512_d1) fun r _ => L r := by
  intro i
  have h := concatenate_replicate_apply (t := S512x512) (s₁ := S512x128) 1 4 (shapeCast S512x128 x shapeCasts_S512x128_S512x128)
    concatenates_S512x128_S512x128_S512x128_S512x128_S512x512_d1 rfl i
    (ValueIdx.ix2 (i 0) ⟨(i 1).val % 128, Nat.mod_lt _ (by decide)⟩) rfl
    (fun b hb => by
      match b with
      | ⟨0, _⟩ => rfl
      | ⟨1, _⟩ => exact absurd rfl hb)
  exact h.trans ((congrFun (shapeCast_id x _) _).trans (hx _))

/-- Whether a query sees a key: by their chunks of 64. -/
def Vis (r k : ℕ) : Prop := k / 64 ≤ r / 64

instance (r k : ℕ) : Decidable (Vis r k) := Nat.decLe _ _

theorem shift_word : ∀ r : Fin 512, IntOp.shrsi .vector (0#32 + BitVec.ofNat 32 r.val) 6#32 = BitVec.ofNat 32 (r.val / 64) := by
  decide +kernel

theorem sle_word : ∀ a b : Fin 8, IntOp.cmpi .sle (BitVec.ofNat 32 a.val) (BitVec.ofNat 32 b.val) = if a.val ≤ b.val then 1#1 else 0#1 := by
  decide +kernel

/-- The mask of the diagonal block, read at a query and a key. -/
theorem mask_apply (i : S512x512.Idx) : k0_pay41 i = if Vis (i 0).val (i 1).val then 1#1 else 0#1 := by
  have h : k0_pay41 i = IntOp.cmpi .sle (IntOp.shrsi .vector (0#32 + BitVec.ofNat 32 (i 1).val) 6#32)
      (IntOp.shrsi .vector (0#32 + BitVec.ofNat 32 (i 0).val) 6#32) := by
    unfold k0_pay41
    simp only [pointwise]
    simp only [List.foldl, Nat.zero_mul, Nat.zero_add, IntOp.addi]
  have h0 : (i 0).val / 64 < 8 := by have := (i 0).isLt; change (i 0).val < 512 at this; omega
  have h1 : (i 1).val / 64 < 8 := by have := (i 1).isLt; change (i 1).val < 512 at this; omega
  rw [h, shift_word (i 1), shift_word (i 0)]
  exact sle_word ⟨_, h1⟩ ⟨_, h0⟩

/-- The named constant of the mask is −∞. -/
theorem mask_named : (Named.named κ "mask" 0xF149F2CA#32 : Ideal .f32) = (⊥ : EReal) :=
  IdealRules.named_const.ideal_named_scalar _ _ _ _ rfl

/-- The probability of a query for a key, from its score and the query's log-sum, both in base 2. -/
def prob (s l : ℝ) : ℝ := Real.rpow 2 (s - l)

/-- The scores of a query block and a key block, 256 lanes. -/
def score (Q K : ℕ → ℕ → ℝ) (r k : ℕ) : ℝ := ∑ c ∈ Finset.range 256, Q r c * K k c

/-- The gradient of a probability: the product of the incoming gradient with the values, 128 lanes. -/
def dprob (G V : ℕ → ℕ → ℝ) (r k : ℕ) : ℝ := ∑ c ∈ Finset.range 128, G r c * V k c

/-- The probability of a pair that is seen, zero of a pair that is not; -/
def tileP (vis : ℕ → ℕ → Bool) (Q K : ℕ → ℕ → ℝ) (L : ℕ → ℝ) (r k : ℕ) : ℝ :=
  if vis r k then prob (score Q K r k) (L r) else 0

/-- and the gradient of its score. -/
def tileD (vis : ℕ → ℕ → Bool) (Q K G V : ℕ → ℕ → ℝ) (L D : ℕ → ℝ) (r k : ℕ) : ℝ :=
  tileP vis Q K L r k * (dprob G V r k - D r)

/-- The pairs of a later query block are all seen; -/
abbrev allVis : ℕ → ℕ → Bool := fun _ _ => true
/-- those of the diagonal block by their chunks. -/
abbrev chunkVis : ℕ → ℕ → Bool := fun r k => decide (Vis r k)

section
variable (q k : FVec Ideal S512x256 .bf16) (g v : FVec Ideal S512x128 .bf16) (lse delta : FVec Ideal S512x128 .f32)
  (Q K G V : ℕ → ℕ → ℝ) (L D : ℕ → ℝ) (hq : Is q Q) (hk : Is k K) (hg : Is g G) (hv : Is v V)
  (hl : Is lse fun r _ => L r) (hd : Is delta fun r _ => D r)
include hq hk hl

/-- The probabilities of a later query block, left head, -/
theorem probs_later0 : Is (k0_pay6 (F := Ideal) q k lse) (tileP allVis Q K L) := by
  intro i
  unfold k0_pay6
  simp only [k0_pay3, k0_pay4, k0_pay5, k0_pay12, k0_pay13, k0_pay14, k0_pay36, k0_pay37, k0_pay38, k0_pay39, k0_pay40, k0_pay47, k0_pay48, k0_pay49, shapeCast_id]
  have h := nt256 q k Q K hq hk i
  have hw := wide lse L hl i
  simp only [exp2_at, subf_at]
  rw [h, hw, ← EReal.coe_sub]
  rfl

/-- and right head. -/
theorem probs_later1 : Is (k0_pay15 (F := Ideal) q k lse) (tileP allVis Q K L) := by
  intro i
  unfold k0_pay15
  simp only [k0_pay3, k0_pay4, k0_pay5, k0_pay12, k0_pay13, k0_pay14, k0_pay36, k0_pay37, k0_pay38, k0_pay39, k0_pay40, k0_pay47, k0_pay48, k0_pay49, shapeCast_id]
  have h := nt256 q k Q K hq hk i
  have hw := wide lse L hl i
  simp only [exp2_at, subf_at]
  rw [h, hw, ← EReal.coe_sub]
  rfl

/-- The probabilities of the diagonal block, left head, -/
theorem probs_diag0 : Is (k0_pay42 (F := Ideal) (k0_pay40 q k) k0_pay41 lse) (tileP chunkVis Q K L) := by
  intro i
  have hm := mask_apply i
  skip
  unfold k0_pay42
  simp only [k0_pay3, k0_pay4, k0_pay5, k0_pay12, k0_pay13, k0_pay14, k0_pay36, k0_pay37, k0_pay38, k0_pay39, k0_pay40, k0_pay47, k0_pay48, k0_pay49, shapeCast_id]
  have h := nt256 q k Q K hq hk i
  have hw := wide lse L hl i
  simp only [exp2_at, subf_at, select_at]
  rw [hm, hw]
  by_cases hv : Vis (i 0).val (i 1).val
  · rw [if_pos hv, ValueIdx.select_one, h, ← EReal.coe_sub, tileP, if_pos (decide_eq_true hv)]
    rfl
  · rw [if_neg hv, ValueIdx.select_zero, tileP, if_neg (by simpa using hv)]
    show Ideal.exp2 ((Named.named κ "mask" 0xF149F2CA#32 : Ideal .f32) - _) = _
    rw [mask_named]
    simp

/-- and right head. -/
theorem probs_diag1 : Is (k0_pay50 (F := Ideal) q k lse) (tileP chunkVis Q K L) := by
  intro i
  have hm := mask_apply i
  unfold k0_pay41 at hm
  unfold k0_pay50
  simp only [k0_pay3, k0_pay4, k0_pay5, k0_pay12, k0_pay13, k0_pay14, k0_pay36, k0_pay37, k0_pay38, k0_pay39, k0_pay40, k0_pay47, k0_pay48, k0_pay49, shapeCast_id]
  have h := nt256 q k Q K hq hk i
  have hw := wide lse L hl i
  simp only [exp2_at, subf_at, select_at]
  rw [hm, hw]
  by_cases hv : Vis (i 0).val (i 1).val
  · rw [if_pos hv, ValueIdx.select_one, h, ← EReal.coe_sub, tileP, if_pos (decide_eq_true hv)]
    rfl
  · rw [if_neg hv, ValueIdx.select_zero, tileP, if_neg (by simpa using hv)]
    show Ideal.exp2 ((Named.named κ "mask" 0xF149F2CA#32 : Ideal .f32) - _) = _
    rw [mask_named]
    simp

include hg hv hd

/-- The gradients of the scores of a later query block, left head, -/
theorem grads_later0 : Is (k0_pay7 (F := Ideal) q g k v lse delta) (tileD allVis Q K G V L D) := by
  intro i
  have hp := probs_later0 q k lse Q K L hq hk hl i
  have h := nt128 g v G V hg hv i
  have hw := wide delta D hd i
  unfold k0_pay7
  simp only [k0_pay4, k0_pay13, k0_pay37, k0_pay39, k0_pay48, shapeCast_id]
  rw [truncf_at, mulf_at, subf_at, h, hw, hp, ← EReal.coe_sub, ← EReal.coe_mul]
  rfl

/-- The gradients of the scores of right head; -/
theorem grads_later1 : Is (k0_pay16 (F := Ideal) q g k v lse delta) (tileD allVis Q K G V L D) := by
  intro i
  have hp := probs_later1 q k lse Q K L hq hk hl i
  have h := nt128 g v G V hg hv i
  have hw := wide delta D hd i
  unfold k0_pay16
  simp only [k0_pay4, k0_pay13, k0_pay37, k0_pay39, k0_pay48, shapeCast_id]
  rw [truncf_at, mulf_at, subf_at, h, hw, hp, ← EReal.coe_sub, ← EReal.coe_mul]
  rfl

/-- The gradients of the scores of of the diagonal block, left head, -/
theorem grads_diag0 : Is (k0_pay43 (F := Ideal) (k0_pay37 g) (k0_pay39 v) (k0_pay40 q k) k0_pay41 lse delta) (tileD chunkVis Q K G V L D) := by
  intro i
  have hp := probs_diag0 q k lse Q K L hq hk hl i
  have h := nt128 g v G V hg hv i
  have hw := wide delta D hd i
  unfold k0_pay43
  simp only [k0_pay4, k0_pay13, k0_pay37, k0_pay39, k0_pay48, shapeCast_id]
  rw [truncf_at, mulf_at, subf_at, h, hw, hp, ← EReal.coe_sub, ← EReal.coe_mul]
  rfl

/-- The gradients of the scores of right head. -/
theorem grads_diag1 : Is (k0_pay51 (F := Ideal) q g k v lse delta) (tileD chunkVis Q K G V L D) := by
  intro i
  have hp := probs_diag1 q k lse Q K L hq hk hl i
  have h := nt128 g v G V hg hv i
  have hw := wide delta D hd i
  unfold k0_pay51
  simp only [k0_pay4, k0_pay13, k0_pay37, k0_pay39, k0_pay48, shapeCast_id]
  rw [truncf_at, mulf_at, subf_at, h, hw, hp, ← EReal.coe_sub, ← EReal.coe_mul]
  rfl

variable (a : FVec Ideal S512x128 .f32) (b : FVec Ideal S512x256 .f32) (A B : ℕ → ℕ → ℝ) (ha : Is a A) (hb : Is b B)

include ha in
/-- What is added to the values' gradient: a later query block, left head. -/
theorem dv_later0 : Is (k0_pay8 (F := Ideal) q g k lse a)
    (fun x c => A x c + ∑ r ∈ Finset.range 512, tileP allVis Q K L r x * G r c) := by
  intro i
  have hp := probs_later0 q k lse Q K L hq hk hl
  have h := tn128 (truncf .bf16 (k0_pay6 (F := Ideal) q k lse) bitsLt_bf16_f32) g _ G hp hg i
  unfold k0_pay8
  simp only [k0_pay4, k0_pay13, k0_pay37, k0_pay48, shapeCast_id]
  simp only [k0_pay37, k0_pay48, shapeCast_id] at h
  rw [addf_at, h, ha, ← EReal.coe_add]

include ha in
/-- What is added to the values' gradient: a later query block, right head. -/
theorem dv_later1 : Is (k0_pay56 (k0_pay17 (F := Ideal) q g k lse a))
    (fun x c => A x c + ∑ r ∈ Finset.range 512, tileP allVis Q K L r x * G r c) := by
  intro i
  have hp := probs_later1 q k lse Q K L hq hk hl
  have h := tn128 (truncf .bf16 (k0_pay15 (F := Ideal) q k lse) bitsLt_bf16_f32) g _ G hp hg i
  unfold k0_pay56 k0_pay17
  simp only [k0_pay4, k0_pay13, k0_pay37, k0_pay48, shapeCast_id]
  simp only [k0_pay37, k0_pay48, shapeCast_id] at h
  rw [addf_at, h, ha, ← EReal.coe_add]

include ha in
/-- What is added to the values' gradient: the diagonal block, left head. -/
theorem dv_diag0 : Is (k0_pay44 (F := Ideal) (k0_pay37 g) (k0_pay40 q k) k0_pay41 lse a)
    (fun x c => A x c + ∑ r ∈ Finset.range 512, tileP chunkVis Q K L r x * G r c) := by
  intro i
  have hp := probs_diag0 q k lse Q K L hq hk hl
  have h := tn128 (truncf .bf16 (k0_pay42 (F := Ideal) (k0_pay40 q k) k0_pay41 lse) bitsLt_bf16_f32) g _ G hp hg i
  unfold k0_pay44
  simp only [k0_pay4, k0_pay13, k0_pay37, k0_pay48, shapeCast_id]
  simp only [k0_pay37, k0_pay48, shapeCast_id] at h
  rw [addf_at, h, ha, ← EReal.coe_add]

include ha in
/-- What is added to the values' gradient: the diagonal block, right head. -/
theorem dv_diag1 : Is (k0_pay53 (k0_pay52 (F := Ideal) q g k lse a))
    (fun x c => A x c + ∑ r ∈ Finset.range 512, tileP chunkVis Q K L r x * G r c) := by
  intro i
  have hp := probs_diag1 q k lse Q K L hq hk hl
  have h := tn128 (truncf .bf16 (k0_pay50 (F := Ideal) q k lse) bitsLt_bf16_f32) g _ G hp hg i
  unfold k0_pay53 k0_pay52
  simp only [k0_pay4, k0_pay13, k0_pay37, k0_pay48, shapeCast_id]
  simp only [k0_pay37, k0_pay48, shapeCast_id] at h
  rw [addf_at, h, ha, ← EReal.coe_add]

include hb in
/-- What is added to the keys' gradient: a later query block, left head. -/
theorem dk_later0 : Is (k0_pay10 (k0_pay9 (F := Ideal) q g k v lse delta b))
    (fun x c => B x c + ∑ r ∈ Finset.range 512, tileD allVis Q K G V L D r x * Q r c) := by
  intro i
  have hp := grads_later0 q k g v lse delta Q K G V L D hq hk hg hv hl hd
  have h := tn256 _ q _ Q hp hq i
  unfold k0_pay10 k0_pay9
  simp only [k0_pay3, k0_pay12, k0_pay36, k0_pay47, shapeCast_id]
  simp only [k0_pay36, k0_pay47, shapeCast_id] at h
  rw [addf_at, h, hb, ← EReal.coe_add]

include hb in
/-- What is added to the keys' gradient: a later query block, right head. -/
theorem dk_later1 : Is (k0_pay57 (k0_pay12 q) (k0_pay16 (F := Ideal) q g k v lse delta) b)
    (fun x c => B x c + ∑ r ∈ Finset.range 512, tileD allVis Q K G V L D r x * Q r c) := by
  intro i
  have hp := grads_later1 q k g v lse delta Q K G V L D hq hk hg hv hl hd
  have h := tn256 _ q _ Q hp hq i
  unfold k0_pay57
  simp only [k0_pay3, k0_pay12, k0_pay36, k0_pay47, shapeCast_id]
  simp only [k0_pay36, k0_pay47, shapeCast_id] at h
  rw [addf_at, h, hb, ← EReal.coe_add]

include hb in
/-- What is added to the keys' gradient: the diagonal block, left head. -/
theorem dk_diag0 : Is (k0_pay45 (F := Ideal) (k0_pay36 q) (k0_pay37 g) (k0_pay39 v) (k0_pay40 q k) k0_pay41 lse delta b)
    (fun x c => B x c + ∑ r ∈ Finset.range 512, tileD chunkVis Q K G V L D r x * Q r c) := by
  intro i
  have hp := grads_diag0 q k g v lse delta Q K G V L D hq hk hg hv hl hd
  have h := tn256 _ q _ Q hp hq i
  unfold k0_pay45
  simp only [k0_pay3, k0_pay12, k0_pay36, k0_pay47, shapeCast_id]
  simp only [k0_pay36, k0_pay47, shapeCast_id] at h
  rw [addf_at, h, hb, ← EReal.coe_add]

include hb in
/-- What is added to the keys' gradient: the diagonal block, right head. -/
theorem dk_diag1 : Is (k0_pay54 (k0_pay47 q) (k0_pay51 (F := Ideal) q g k v lse delta) b)
    (fun x c => B x c + ∑ r ∈ Finset.range 512, tileD chunkVis Q K G V L D r x * Q r c) := by
  intro i
  have hp := grads_diag1 q k g v lse delta Q K G V L D hq hk hg hv hl hd
  have h := tn256 _ q _ Q hp hq i
  unfold k0_pay54
  simp only [k0_pay3, k0_pay12, k0_pay36, k0_pay47, shapeCast_id]
  simp only [k0_pay36, k0_pay47, shapeCast_id] at h
  rw [addf_at, h, hb, ← EReal.coe_add]

include hb in
/-- What is added to the queries' gradient: a later query block, left head. -/
theorem dq_later0 : Is (k0_pay11 (k0_pay5 k) (k0_pay7 (F := Ideal) q g k v lse delta) b)
    (fun r c => B r c + ∑ x ∈ Finset.range 512, tileD allVis Q K G V L D r x * K x c) := by
  intro i
  have hp := grads_later0 q k g v lse delta Q K G V L D hq hk hg hv hl hd
  have h := nn256 _ k _ K hp hk i
  unfold k0_pay11
  simp only [k0_pay5, k0_pay14, k0_pay38, k0_pay49, shapeCast_id]
  simp only [k0_pay38, k0_pay49, shapeCast_id] at h
  rw [addf_at, h, hb, ← EReal.coe_add]

include hb in
/-- What is added to the queries' gradient: a later query block, right head. -/
theorem dq_later1 : Is (k0_pay58 (k0_pay14 k) (k0_pay16 (F := Ideal) q g k v lse delta) b)
    (fun r c => B r c + ∑ x ∈ Finset.range 512, tileD allVis Q K G V L D r x * K x c) := by
  intro i
  have hp := grads_later1 q k g v lse delta Q K G V L D hq hk hg hv hl hd
  have h := nn256 _ k _ K hp hk i
  unfold k0_pay58
  simp only [k0_pay5, k0_pay14, k0_pay38, k0_pay49, shapeCast_id]
  simp only [k0_pay38, k0_pay49, shapeCast_id] at h
  rw [addf_at, h, hb, ← EReal.coe_add]

include hb in
/-- What is added to the queries' gradient: the diagonal block, left head. -/
theorem dq_diag0 : Is (k0_pay46 (F := Ideal) (k0_pay37 g) (k0_pay38 k) (k0_pay39 v) (k0_pay40 q k) k0_pay41 lse delta b)
    (fun r c => B r c + ∑ x ∈ Finset.range 512, tileD chunkVis Q K G V L D r x * K x c) := by
  intro i
  have hp := grads_diag0 q k g v lse delta Q K G V L D hq hk hg hv hl hd
  have h := nn256 _ k _ K hp hk i
  unfold k0_pay46
  simp only [k0_pay5, k0_pay14, k0_pay38, k0_pay49, shapeCast_id]
  simp only [k0_pay38, k0_pay49, shapeCast_id] at h
  rw [addf_at, h, hb, ← EReal.coe_add]

include hb in
/-- What is added to the queries' gradient: the diagonal block, right head. -/
theorem dq_diag1 : Is (k0_pay55 (k0_pay49 k) (k0_pay51 (F := Ideal) q g k v lse delta) b)
    (fun r c => B r c + ∑ x ∈ Finset.range 512, tileD chunkVis Q K G V L D r x * K x c) := by
  intro i
  have hp := grads_diag1 q k g v lse delta Q K G V L D hq hk hg hv hl hd
  have h := nn256 _ k _ K hp hk i
  unfold k0_pay55
  simp only [k0_pay5, k0_pay14, k0_pay38, k0_pay49, shapeCast_id]
  simp only [k0_pay38, k0_pay49, shapeCast_id] at h
  rw [addf_at, h, hb, ← EReal.coe_add]

end

end Cert.KernelIdeal.Gen
-- ==== Proof.KernelIdeal.Sums.lean ====
/- A grid point over blocks of real numbers: the three accumulators after it, as sums over the queries and
   the keys of the point. A pair of a query and a key that the mask hides counts as zero, so the sums may
   run over all queries. -/
module

public import proofs.«01_k».proof.Proof.KernelIdeal.Tile

@[expose] public section

set_option maxRecDepth 16384

noncomputable section

namespace Cert.KernelIdeal.Gen

open Idealize.ShloMosaic Cert.Reals Cert.Rects
open scoped BigOperators

/-! ## Rectangles of arrays of real numbers -/

theorem is_congr {n0 n1 : ℕ} {a : (⟨2, ![n0, n1]⟩ : Shape).Idx → EReal} {A B : ℕ → ℕ → ℝ} (ha : Is a A)
    (h : ∀ r c, r < n0 → c < n1 → A r c = B r c) : Is a B := fun i => by
  rw [ha i, h _ _ (i 0).isLt (i 1).isLt]

/-- The part of an array under a rectangle, of bf16 elements -/
theorem cut_is16 {N M h n : ℕ} (a : Vec Ideal ⟨2, ![N, M]⟩ .bf16) (A : ℕ → ℕ → ℝ) (ha : Is a A) (off : Fin 2 → ℕ)
    (inb : ∀ d, off d + (![h, n] : Fin 2 → ℕ) d ≤ (⟨2, ![N, M]⟩ : Shape).size d) (o p : ℕ) (e0 : off 0 = o) (e1 : off 1 = p) :
    Is (n0 := h) (n1 := n) (cut (Rect.unit (s := ⟨2, ![N, M]⟩) off ![h, n] inb) a) fun r c => A (o + r) (p + c) := by
  intro i
  subst e0; subst e1
  refine (ha _).trans ?_
  simp only [Rect.emb_apply, Rect.off_unit, Rect.stride_unit, Nat.one_mul]

/-- and of f32 elements. -/
theorem cut_is32 {N M h n : ℕ} (a : Vec Ideal ⟨2, ![N, M]⟩ .f32) (A : ℕ → ℕ → ℝ) (ha : Is a A) (off : Fin 2 → ℕ)
    (inb : ∀ d, off d + (![h, n] : Fin 2 → ℕ) d ≤ (⟨2, ![N, M]⟩ : Shape).size d) (o p : ℕ) (e0 : off 0 = o) (e1 : off 1 = p) :
    Is (n0 := h) (n1 := n) (cut (Rect.unit (s := ⟨2, ![N, M]⟩) off ![h, n] inb) a) fun r c => A (o + r) (p + c) := by
  intro i
  subst e0; subst e1
  refine (ha _).trans ?_
  simp only [Rect.emb_apply, Rect.off_unit, Rect.stride_unit, Nat.one_mul]

/-- An array with one rectangle overwritten. -/
theorem over_is {N M h n : ℕ} (a : Vec Ideal ⟨2, ![N, M]⟩ .f32) (w : Vec Ideal ⟨2, ![h, n]⟩ .f32) (W : ℕ → ℕ → ℝ) (off : Fin 2 → ℕ)
    (inb : ∀ d, off d + (![h, n] : Fin 2 → ℕ) d ≤ (⟨2, ![N, M]⟩ : Shape).size d) (hw : Is w fun r c => W (off 0 + r) (off 1 + c))
    (ha : ∀ i, i ∉ (Rect.unit (s := ⟨2, ![N, M]⟩) off ![h, n] inb).set → (a i : EReal) = ((W (i 0).val (i 1).val : ℝ) : EReal)) :
    Is (over (Rect.unit (s := ⟨2, ![N, M]⟩) off ![h, n] inb) w a) W := by
  intro i
  by_cases hi : i ∈ (Rect.unit (s := ⟨2, ![N, M]⟩) off ![h, n] inb).set
  · obtain ⟨x, rfl⟩ := (Rect.unit (s := ⟨2, ![N, M]⟩) off ![h, n] inb).exists_idx_of_mem hi
    refine (over_emb (Rect.unit (s := ⟨2, ![N, M]⟩) off ![h, n] inb) w a x).trans ((hw x).trans ?_)
    show _ = ((W (((Rect.unit (s := ⟨2, ![N, M]⟩) off ![h, n] inb).emb x) 0).val
      (((Rect.unit (s := ⟨2, ![N, M]⟩) off ![h, n] inb).emb x) 1).val : ℝ) : EReal)
    simp only [Rect.emb_apply, Rect.off_unit, Rect.stride_unit, Nat.one_mul]
  · exact (over_of_not_mem _ w a hi).trans (ha i hi)

/-- An array with a block of rows overwritten, the left half of the columns and then the right half. -/
theorem over_pair {N h n : ℕ} (a : Vec Ideal ⟨2, ![N, n + n]⟩ .f32) (w0 w1 : Vec Ideal ⟨2, ![h, n]⟩ .f32) (W : ℕ → ℕ → ℝ)
    (off0 off1 : Fin 2 → ℕ)
    (inb0 : ∀ d, off0 d + (![h, n] : Fin 2 → ℕ) d ≤ (⟨2, ![N, n + n]⟩ : Shape).size d)
    (inb1 : ∀ d, off1 d + (![h, n] : Fin 2 → ℕ) d ≤ (⟨2, ![N, n + n]⟩ : Shape).size d) (o : ℕ)
    (e00 : off0 0 = o) (e01 : off0 1 = 0) (e10 : off1 0 = o) (e11 : off1 1 = n)
    (h0 : Is w0 fun r c => W (o + r) c) (h1 : Is w1 fun r c => W (o + r) (n + c))
    (ha : ∀ i : (⟨2, ![N, n + n]⟩ : Shape).Idx, (i 0).val < o ∨ o + h ≤ (i 0).val → (a i : EReal) = ((W (i 0).val (i 1).val : ℝ) : EReal)) :
    Is (over (Rect.unit (s := ⟨2, ![N, n + n]⟩) off1 ![h, n] inb1) w1
      (over (Rect.unit (s := ⟨2, ![N, n + n]⟩) off0 ![h, n] inb0) w0 a)) W := by
  refine over_is _ w1 W off1 inb1 (by rw [e10, e11]; exact h1) fun i hi => ?_
  by_cases hi0 : i ∈ (Rect.unit (s := ⟨2, ![N, n + n]⟩) off0 ![h, n] inb0).set
  · obtain ⟨x, rfl⟩ := (Rect.unit (s := ⟨2, ![N, n + n]⟩) off0 ![h, n] inb0).exists_idx_of_mem hi0
    refine (over_emb (Rect.unit (s := ⟨2, ![N, n + n]⟩) off0 ![h, n] inb0) w0 a x).trans ((h0 x).trans ?_)
    show _ = ((W (((Rect.unit (s := ⟨2, ![N, n + n]⟩) off0 ![h, n] inb0).emb x) 0).val
      (((Rect.unit (s := ⟨2, ![N, n + n]⟩) off0 ![h, n] inb0).emb x) 1).val : ℝ) : EReal)
    simp only [Rect.emb_apply, Rect.off_unit, Rect.stride_unit, Nat.one_mul, e00, e01, Nat.zero_add]
  · refine (over_of_not_mem _ w0 a hi0).trans (ha i ?_)
    rw [Rect.mem_set_unit] at hi hi0
    have l1 : (i 1).val < n + n := (i 1).isLt
    by_contra hc
    apply hi0
    intro d
    match d with
    | ⟨0, _⟩ =>
      show off0 0 ≤ (i 0).val ∧ (i 0).val < off0 0 + h
      omega
    | ⟨1, _⟩ =>
      show off0 1 ≤ (i 1).val ∧ (i 1).val < off0 1 + n
      by_contra hd
      apply hi
      intro d
      match d with
      | ⟨0, _⟩ =>
        show off1 0 ≤ (i 0).val ∧ (i 0).val < off1 0 + h
        omega
      | ⟨1, _⟩ =>
        show off1 1 ≤ (i 1).val ∧ (i 1).val < off1 1 + n
        omega

/-! ## The offsets -/

theorem off1_val (i : grid0.Coords) : k0_off1 i 0 = 512 * (i 1).val ∧ k0_off1 i 1 = 0 := by revert i; decide +kernel
theorem off2_val (i : grid0.Coords) : k0_off2 i 0 = 512 * (i 1).val ∧ k0_off2 i 1 = 0 := by revert i; decide +kernel
theorem off3_val (i : grid0.Coords) : k0_off3 i 0 = 512 * (i 1).val ∧ k0_off3 i 1 = 256 := by revert i; decide +kernel
theorem off4_val (i : grid0.Coords) : k0_off4 i 0 = 512 * (i 1).val ∧ k0_off4 i 1 = 128 := by revert i; decide +kernel
theorem trips_val (i : grid0.Coords) : (k0_t1_loop i).trips = 7 - (i 1).val := by revert i; decide +kernel
theorem off5_val (i : grid0.Coords) (t : Fin (k0_t1_loop i).trips) : k0_off5 i t 0 = 512 * ((i 1).val + 1 + t.val) ∧ k0_off5 i t 1 = 0 := by
  revert i; decide +kernel
theorem off6_val (i : grid0.Coords) (t : Fin (k0_t1_loop i).trips) : k0_off6 i t 0 = 512 * ((i 1).val + 1 + t.val) ∧ k0_off6 i t 1 = 0 := by
  revert i; decide +kernel
theorem off7_val (i : grid0.Coords) (t : Fin (k0_t1_loop i).trips) : k0_off7 i t 0 = 512 * ((i 1).val + 1 + t.val) ∧ k0_off7 i t 1 = 256 := by
  revert i; decide +kernel
theorem off8_val (i : grid0.Coords) (t : Fin (k0_t1_loop i).trips) : k0_off8 i t 0 = 512 * ((i 1).val + 1 + t.val) ∧ k0_off8 i t 1 = 128 := by
  revert i; decide +kernel

/-! ## One query block -/

/-- The blocks of a point over the reals: by row and column, the row sums by row and head. -/
structure RB where
  q : ℕ → ℕ → ℝ
  k : ℕ → ℕ → ℝ
  v : ℕ → ℕ → ℝ
  g : ℕ → ℕ → ℝ
  lse : ℕ → ℕ → ℝ
  delta : ℕ → ℕ → ℝ

/-- The accumulators over the reals. -/
structure RA where
  dq : ℕ → ℕ → ℝ
  dk : ℕ → ℕ → ℝ
  dv : ℕ → ℕ → ℝ

/-- The blocks `x` hold the real numbers `X`. -/
structure BlksAre (x : Blks Ideal) (X : RB) : Prop where
  q : Is x.q X.q
  k : Is x.k X.k
  v : Is x.v X.v
  g : Is x.g X.g
  lse : Is x.lse fun r c => X.lse r (c / 128)
  delta : Is x.delta fun r c => X.delta r (c / 128)

/-- The accumulators `a` hold the real numbers `A`. -/
structure AccIs (a : Acc Ideal) (A : RA) : Prop where
  dq : Is a.dq A.dq
  dk : Is a.dk A.dk
  dv : Is a.dv A.dv

/-- The probability of query `r` for key `k` of key block `j`, head `w` of the pair: zero where the mask hides the key; -/
def RB.P (X : RB) (j r k w : ℕ) : ℝ :=
  if Vis r (512 * j + k) then prob (score (fun r c => X.q r (256 * w + c)) (fun k c => X.k k (256 * w + c)) r k) (X.lse r w) else 0

/-- and the gradient of its score. -/
def RB.D (X : RB) (j r k w : ℕ) : ℝ :=
  X.P j r k w * (dprob (fun r c => X.g r (128 * w + c)) (fun k c => X.v k (128 * w + c)) r k - X.delta r w)

/-- What the query block at row `o` adds to the accumulators of key block `j`. -/
def stepR (X : RB) (j o : ℕ) (A : RA) : RA where
  dq r c := A.dq r c + if o ≤ r ∧ r < o + 512 then ∑ x ∈ Finset.range 512, X.D j r x (c / 256) * X.k x c else 0
  dk x c := A.dk x c + ∑ r ∈ Finset.range 512, X.D j (o + r) x (c / 256) * X.q (o + r) c
  dv x c := A.dv x c + ∑ r ∈ Finset.range 512, X.P j (o + r) x (c / 128) * X.g (o + r) c

section
variable (X : RB) (j w : ℕ)

/-- The queries of the block at row `o`, -/
abbrev RB.qAt (o w : ℕ) (r c : ℕ) : ℝ := X.q (o + r) (256 * w + c)
abbrev RB.kAt (w : ℕ) (r c : ℕ) : ℝ := X.k (0 + r) (256 * w + c)
abbrev RB.gAt (o w : ℕ) (r c : ℕ) : ℝ := X.g (o + r) (128 * w + c)
abbrev RB.vAt (w : ℕ) (r c : ℕ) : ℝ := X.v (0 + r) (128 * w + c)
abbrev RB.lseAt (o w : ℕ) (r : ℕ) : ℝ := X.lse (o + r) w
/-- and so on of the other blocks. -/
abbrev RB.deltaAt (o w : ℕ) (r : ℕ) : ℝ := X.delta (o + r) w

theorem tileP_diag (r k : ℕ) :
    tileP chunkVis (X.qAt (512 * j) w) (X.kAt w) (X.lseAt (512 * j) w) r k = X.P j (512 * j + r) k w := by
  have hv : Vis r k ↔ Vis (512 * j + r) (512 * j + k) := by unfold Vis; omega
  unfold tileP RB.P score
  simp only [decide_eq_true_eq, hv, RB.kAt, Nat.zero_add]

theorem tileD_diag (r k : ℕ) :
    tileD chunkVis (X.qAt (512 * j) w) (X.kAt w) (X.gAt (512 * j) w) (X.vAt w) (X.lseAt (512 * j) w) (X.deltaAt (512 * j) w) r k
      = X.D j (512 * j + r) k w := by
  unfold tileD RB.D
  rw [tileP_diag]
  simp only [dprob, RB.vAt, Nat.zero_add]

theorem tileP_later (b : ℕ) (hb : j < b) (r k : ℕ) (hk : k < 512) :
    tileP allVis (X.qAt (512 * b) w) (X.kAt w) (X.lseAt (512 * b) w) r k = X.P j (512 * b + r) k w := by
  have hv : Vis (512 * b + r) (512 * j + k) := by unfold Vis; omega
  unfold tileP RB.P score
  simp only [if_pos hv, RB.kAt, Nat.zero_add, if_true]

theorem tileD_later (b : ℕ) (hb : j < b) (r k : ℕ) (hk : k < 512) :
    tileD allVis (X.qAt (512 * b) w) (X.kAt w) (X.gAt (512 * b) w) (X.vAt w) (X.lseAt (512 * b) w) (X.deltaAt (512 * b) w) r k
      = X.D j (512 * b + r) k w := by
  unfold tileD RB.D
  rw [tileP_later X j w b hb r k hk]
  simp only [dprob, RB.vAt, Nat.zero_add]

end

set_option maxHeartbeats 2000000 in
/-- The diagonal block. -/
theorem diag_is (i : grid0.Coords) (x : Blks Ideal) (X : RB) (hx : BlksAre x X) (a : Acc Ideal) (A : RA) (ha : AccIs a A) :
    AccIs (diag i x a) (stepR X (i 1).val (512 * (i 1).val) A) := by
  have hq0 := cut_is16 x.q X.q hx.q (k0_off1 i) (k0_off1_inb i) (512 * (i 1).val) (256 * 0) (off1_val i).1 (off1_val i).2
  have hk0 := cut_is16 x.k X.k hx.k ![0, 256 * 0] inb_S512x512_S512x256_0_0 0 (256 * 0) rfl rfl
  have hg0 := cut_is16 x.g X.g hx.g (k0_off2 i) (k0_off2_inb i) (512 * (i 1).val) (128 * 0) (off2_val i).1 (off2_val i).2
  have hv0 := cut_is16 x.v X.v hx.v ![0, 128 * 0] inb_S512x256_S512x128_0_0 0 (128 * 0) rfl rfl
  have hl0 := is_congr (cut_is32 x.lse _ hx.lse (k0_off2 i) (k0_off2_inb i) (512 * (i 1).val) (128 * 0) (off2_val i).1 (off2_val i).2)
    (B := fun r _ => X.lseAt (512 * (i 1).val) 0 r) (fun r c _ hc => by simp only [show (128 * 0 + c) / 128 = 0 by omega])
  have hd0 := is_congr (cut_is32 x.delta _ hx.delta (k0_off2 i) (k0_off2_inb i) (512 * (i 1).val) (128 * 0) (off2_val i).1 (off2_val i).2)
    (B := fun r _ => X.deltaAt (512 * (i 1).val) 0 r) (fun r c _ hc => by simp only [show (128 * 0 + c) / 128 = 0 by omega])
  have hA0 := cut_is32 a.dv A.dv ha.dv ![0, 128 * 0] inb_S512x256_S512x128_0_0 0 (128 * 0) rfl rfl
  have hB0 := cut_is32 a.dk A.dk ha.dk ![0, 256 * 0] inb_S512x512_S512x256_0_0 0 (256 * 0) rfl rfl
  have hC0 := cut_is32 a.dq A.dq ha.dq (k0_off1 i) (k0_off1_inb i) (512 * (i 1).val) (256 * 0) (off1_val i).1 (off1_val i).2
  have hq1 := cut_is16 x.q X.q hx.q (k0_off3 i) (k0_off3_inb i) (512 * (i 1).val) (256 * 1) (off3_val i).1 (off3_val i).2
  have hk1 := cut_is16 x.k X.k hx.k ![0, 256 * 1] inb_S512x512_S512x256_0_256 0 (256 * 1) rfl rfl
  have hg1 := cut_is16 x.g X.g hx.g (k0_off4 i) (k0_off4_inb i) (512 * (i 1).val) (128 * 1) (off4_val i).1 (off4_val i).2
  have hv1 := cut_is16 x.v X.v hx.v ![0, 128 * 1] inb_S512x256_S512x128_0_128 0 (128 * 1) rfl rfl
  have hl1 := is_congr (cut_is32 x.lse _ hx.lse (k0_off4 i) (k0_off4_inb i) (512 * (i 1).val) (128 * 1) (off4_val i).1 (off4_val i).2)
    (B := fun r _ => X.lseAt (512 * (i 1).val) 1 r) (fun r c _ hc => by simp only [show (128 * 1 + c) / 128 = 1 by omega])
  have hd1 := is_congr (cut_is32 x.delta _ hx.delta (k0_off4 i) (k0_off4_inb i) (512 * (i 1).val) (128 * 1) (off4_val i).1 (off4_val i).2)
    (B := fun r _ => X.deltaAt (512 * (i 1).val) 1 r) (fun r c _ hc => by simp only [show (128 * 1 + c) / 128 = 1 by omega])
  have hA1 := cut_is32 a.dv A.dv ha.dv ![0, 128 * 1] inb_S512x256_S512x128_0_128 0 (128 * 1) rfl rfl
  have hB1 := cut_is32 a.dk A.dk ha.dk ![0, 256 * 1] inb_S512x512_S512x256_0_256 0 (256 * 1) rfl rfl
  have hC1 := cut_is32 a.dq A.dq ha.dq (k0_off3 i) (k0_off3_inb i) (512 * (i 1).val) (256 * 1) (off3_val i).1 (off3_val i).2
  constructor
  · refine over_pair a.dq _ _ _ (k0_off1 i) (k0_off3 i) (k0_off1_inb i) (k0_off3_inb i) (512 * (i 1).val) (off1_val i).1 (off1_val i).2 (off3_val i).1 (off3_val i).2 ?_ ?_ fun i' hi => ?_
    · refine is_congr (dq_diag0 (hq := hq0) (hk := hk0) (hg := hg0) (hv := hv0) (hl := hl0) (hd := hd0) (hb := hC0)) fun r c hr hc => ?_
      simp only [stepR, show c / 256 = 0 by omega]
      rw [if_pos (by omega)]
      refine congrArg₂ (· + ·) (by simp) (Finset.sum_congr rfl fun k hk => ?_)
      rw [tileD_diag X (i 1).val 0]
      simp
    · refine is_congr (dq_diag1 (hq := hq1) (hk := hk1) (hg := hg1) (hv := hv1) (hl := hl1) (hd := hd1) (hb := hC1)) fun r c hr hc => ?_
      simp only [stepR, show (256 + c) / 256 = 1 by omega]
      rw [if_pos (by omega)]
      refine congrArg₂ (· + ·) (by simp) (Finset.sum_congr rfl fun k hk => ?_)
      rw [tileD_diag X (i 1).val 1]
      simp
    · rw [ha.dq]
      simp only [stepR]
      rw [if_neg (by omega), add_zero]
  · refine over_pair a.dk _ _ _ ![0, 0] ![0, 256] inb_S512x512_S512x256_0_0 inb_S512x512_S512x256_0_256 0 rfl rfl rfl rfl ?_ ?_ fun i' hi => ?_
    · refine is_congr (dk_diag0 (hq := hq0) (hk := hk0) (hg := hg0) (hv := hv0) (hl := hl0) (hd := hd0) (hb := hB0)) fun r c hr hc => ?_
      simp only [stepR, Nat.zero_add r, show c / 256 = 0 by omega]
      refine congrArg₂ (· + ·) (by simp) (Finset.sum_congr rfl fun k hk => ?_)
      rw [tileD_diag X (i 1).val 0]
      simp
    · refine is_congr (dk_diag1 (hq := hq1) (hk := hk1) (hg := hg1) (hv := hv1) (hl := hl1) (hd := hd1) (hb := hB1)) fun r c hr hc => ?_
      simp only [stepR, Nat.zero_add r, show (256 + c) / 256 = 1 by omega]
      refine congrArg₂ (· + ·) (by simp) (Finset.sum_congr rfl fun k hk => ?_)
      rw [tileD_diag X (i 1).val 1]
    · exact absurd hi (by have := (i' 0).isLt; change (i' 0).val < 512 at this; omega)
  · refine over_pair a.dv _ _ _ ![0, 0] ![0, 128] inb_S512x256_S512x128_0_0 inb_S512x256_S512x128_0_128 0 rfl rfl rfl rfl ?_ ?_ fun i' hi => ?_
    · refine is_congr (dv_diag0 (hq := hq0) (hk := hk0) (hg := hg0) (hv := hv0) (hl := hl0) (hd := hd0) (ha := hA0)) fun r c hr hc => ?_
      simp only [stepR, Nat.zero_add r, show c / 128 = 0 by omega]
      refine congrArg₂ (· + ·) (by simp) (Finset.sum_congr rfl fun k hk => ?_)
      rw [tileP_diag X (i 1).val 0]
      simp
    · refine is_congr (dv_diag1 (hq := hq1) (hk := hk1) (hg := hg1) (hv := hv1) (hl := hl1) (hd := hd1) (ha := hA1)) fun r c hr hc => ?_
      simp only [stepR, Nat.zero_add r, show (128 + c) / 128 = 1 by omega]
      refine congrArg₂ (· + ·) (by simp) (Finset.sum_congr rfl fun k hk => ?_)
      rw [tileP_diag X (i 1).val 1]
    · exact absurd hi (by have := (i' 0).isLt; change (i' 0).val < 512 at this; omega)

set_option maxHeartbeats 2000000 in
/-- A later block. -/
theorem trip_is (i : grid0.Coords) (t : Fin (k0_t1_loop i).trips) (x : Blks Ideal) (X : RB) (hx : BlksAre x X) (a : Acc Ideal) (A : RA) (ha : AccIs a A) :
    AccIs (trip i x t a) (stepR X (i 1).val (512 * ((i 1).val + 1 + t.val)) A) := by
  have hq0 := cut_is16 x.q X.q hx.q (k0_off5 i t) (k0_off5_inb i t) (512 * ((i 1).val + 1 + t.val)) (256 * 0) (off5_val i t).1 (off5_val i t).2
  have hk0 := cut_is16 x.k X.k hx.k ![0, 256 * 0] inb_S512x512_S512x256_0_0 0 (256 * 0) rfl rfl
  have hg0 := cut_is16 x.g X.g hx.g (k0_off6 i t) (k0_off6_inb i t) (512 * ((i 1).val + 1 + t.val)) (128 * 0) (off6_val i t).1 (off6_val i t).2
  have hv0 := cut_is16 x.v X.v hx.v ![0, 128 * 0] inb_S512x256_S512x128_0_0 0 (128 * 0) rfl rfl
  have hl0 := is_congr (cut_is32 x.lse _ hx.lse (k0_off6 i t) (k0_off6_inb i t) (512 * ((i 1).val + 1 + t.val)) (128 * 0) (off6_val i t).1 (off6_val i t).2)
    (B := fun r _ => X.lseAt (512 * ((i 1).val + 1 + t.val)) 0 r) (fun r c _ hc => by simp only [show (128 * 0 + c) / 128 = 0 by omega])
  have hd0 := is_congr (cut_is32 x.delta _ hx.delta (k0_off6 i t) (k0_off6_inb i t) (512 * ((i 1).val + 1 + t.val)) (128 * 0) (off6_val i t).1 (off6_val i t).2)
    (B := fun r _ => X.deltaAt (512 * ((i 1).val + 1 + t.val)) 0 r) (fun r c _ hc => by simp only [show (128 * 0 + c) / 128 = 0 by omega])
  have hA0 := cut_is32 a.dv A.dv ha.dv ![0, 128 * 0] inb_S512x256_S512x128_0_0 0 (128 * 0) rfl rfl
  have hB0 := cut_is32 a.dk A.dk ha.dk ![0, 256 * 0] inb_S512x512_S512x256_0_0 0 (256 * 0) rfl rfl
  have hC0 := cut_is32 a.dq A.dq ha.dq (k0_off5 i t) (k0_off5_inb i t) (512 * ((i 1).val + 1 + t.val)) (256 * 0) (off5_val i t).1 (off5_val i t).2
  have hq1 := cut_is16 x.q X.q hx.q (k0_off7 i t) (k0_off7_inb i t) (512 * ((i 1).val + 1 + t.val)) (256 * 1) (off7_val i t).1 (off7_val i t).2
  have hk1 := cut_is16 x.k X.k hx.k ![0, 256 * 1] inb_S512x512_S512x256_0_256 0 (256 * 1) rfl rfl
  have hg1 := cut_is16 x.g X.g hx.g (k0_off8 i t) (k0_off8_inb i t) (512 * ((i 1).val + 1 + t.val)) (128 * 1) (off8_val i t).1 (off8_val i t).2
  have hv1 := cut_is16 x.v X.v hx.v ![0, 128 * 1] inb_S512x256_S512x128_0_128 0 (128 * 1) rfl rfl
  have hl1 := is_congr (cut_is32 x.lse _ hx.lse (k0_off8 i t) (k0_off8_inb i t) (512 * ((i 1).val + 1 + t.val)) (128 * 1) (off8_val i t).1 (off8_val i t).2)
    (B := fun r _ => X.lseAt (512 * ((i 1).val + 1 + t.val)) 1 r) (fun r c _ hc => by simp only [show (128 * 1 + c) / 128 = 1 by omega])
  have hd1 := is_congr (cut_is32 x.delta _ hx.delta (k0_off8 i t) (k0_off8_inb i t) (512 * ((i 1).val + 1 + t.val)) (128 * 1) (off8_val i t).1 (off8_val i t).2)
    (B := fun r _ => X.deltaAt (512 * ((i 1).val + 1 + t.val)) 1 r) (fun r c _ hc => by simp only [show (128 * 1 + c) / 128 = 1 by omega])
  have hA1 := cut_is32 a.dv A.dv ha.dv ![0, 128 * 1] inb_S512x256_S512x128_0_128 0 (128 * 1) rfl rfl
  have hB1 := cut_is32 a.dk A.dk ha.dk ![0, 256 * 1] inb_S512x512_S512x256_0_256 0 (256 * 1) rfl rfl
  have hC1 := cut_is32 a.dq A.dq ha.dq (k0_off7 i t) (k0_off7_inb i t) (512 * ((i 1).val + 1 + t.val)) (256 * 1) (off7_val i t).1 (off7_val i t).2
  have hb : (i 1).val < (i 1).val + 1 + t.val := by omega
  constructor
  · refine over_pair a.dq _ _ _ (k0_off5 i t) (k0_off7 i t) (k0_off5_inb i t) (k0_off7_inb i t) (512 * ((i 1).val + 1 + t.val)) (off5_val i t).1 (off5_val i t).2 (off7_val i t).1 (off7_val i t).2 ?_ ?_ fun i' hi => ?_
    · refine is_congr (dq_later0 (hq := hq0) (hk := hk0) (hg := hg0) (hv := hv0) (hl := hl0) (hd := hd0) (hb := hC0)) fun r c hr hc => ?_
      simp only [stepR, show c / 256 = 0 by omega]
      rw [if_pos (by omega)]
      refine congrArg₂ (· + ·) (by simp) (Finset.sum_congr rfl fun k hk => ?_)
      rw [tileD_later X (i 1).val 0 _ hb r k (Finset.mem_range.mp hk)]
      simp
    · refine is_congr (dq_later1 (hq := hq1) (hk := hk1) (hg := hg1) (hv := hv1) (hl := hl1) (hd := hd1) (hb := hC1)) fun r c hr hc => ?_
      simp only [stepR, show (256 + c) / 256 = 1 by omega]
      rw [if_pos (by omega)]
      refine congrArg₂ (· + ·) (by simp) (Finset.sum_congr rfl fun k hk => ?_)
      rw [tileD_later X (i 1).val 1 _ hb r k (Finset.mem_range.mp hk)]
      simp
    · rw [ha.dq]
      simp only [stepR]
      rw [if_neg (by omega), add_zero]
  · refine over_pair a.dk _ _ _ ![0, 0] ![0, 256] inb_S512x512_S512x256_0_0 inb_S512x512_S512x256_0_256 0 rfl rfl rfl rfl ?_ ?_ fun i' hi => ?_
    · refine is_congr (dk_later0 (hq := hq0) (hk := hk0) (hg := hg0) (hv := hv0) (hl := hl0) (hd := hd0) (hb := hB0)) fun r c hr hc => ?_
      simp only [stepR, Nat.zero_add r, show c / 256 = 0 by omega]
      refine congrArg₂ (· + ·) (by simp) (Finset.sum_congr rfl fun k hk => ?_)
      rw [tileD_later X (i 1).val 0 _ hb k r hr]
      simp
    · refine is_congr (dk_later1 (hq := hq1) (hk := hk1) (hg := hg1) (hv := hv1) (hl := hl1) (hd := hd1) (hb := hB1)) fun r c hr hc => ?_
      simp only [stepR, Nat.zero_add r, show (256 + c) / 256 = 1 by omega]
      refine congrArg₂ (· + ·) (by simp) (Finset.sum_congr rfl fun k hk => ?_)
      rw [tileD_later X (i 1).val 1 _ hb k r hr]
    · exact absurd hi (by have := (i' 0).isLt; change (i' 0).val < 512 at this; omega)
  · refine over_pair a.dv _ _ _ ![0, 0] ![0, 128] inb_S512x256_S512x128_0_0 inb_S512x256_S512x128_0_128 0 rfl rfl rfl rfl ?_ ?_ fun i' hi => ?_
    · refine is_congr (dv_later0 (hq := hq0) (hk := hk0) (hg := hg0) (hv := hv0) (hl := hl0) (hd := hd0) (ha := hA0)) fun r c hr hc => ?_
      simp only [stepR, Nat.zero_add r, show c / 128 = 0 by omega]
      refine congrArg₂ (· + ·) (by simp) (Finset.sum_congr rfl fun k hk => ?_)
      rw [tileP_later X (i 1).val 0 _ hb k r hr]
      simp
    · refine is_congr (dv_later1 (hq := hq1) (hk := hk1) (hg := hg1) (hv := hv1) (hl := hl1) (hd := hd1) (ha := hA1)) fun r c hr hc => ?_
      simp only [stepR, Nat.zero_add r, show (128 + c) / 128 = 1 by omega]
      refine congrArg₂ (· + ·) (by simp) (Finset.sum_congr rfl fun k hk => ?_)
      rw [tileP_later X (i 1).val 1 _ hb k r hr]
    · exact absurd hi (by have := (i' 0).isLt; change (i' 0).val < 512 at this; omega)

end Cert.KernelIdeal.Gen

end
-- ==== Proof.KernelIdeal.Point.lean ====
/- A whole grid point over blocks of real numbers: each accumulator as one sum over all the queries, or over
   the keys of the point's block. -/
module

public import proofs.«01_k».proof.Proof.KernelIdeal.Sums

@[expose] public section

set_option maxRecDepth 16384

noncomputable section

namespace Cert.KernelIdeal.Gen

open Idealize.ShloMosaic Cert.Reals Cert.Rects
open scoped BigOperators

variable (X : RB) (j : ℕ)

/-- A query before the key block sees none of its keys. -/
theorem RB.P_zero (r k w : ℕ) (h : r < 512 * j) : X.P j r k w = 0 := by
  unfold RB.P
  rw [if_neg]
  unfold Vis
  omega

theorem RB.D_zero (r k w : ℕ) (h : r < 512 * j) : X.D j r k w = 0 := by
  unfold RB.D
  rw [X.P_zero j r k w h, zero_mul]

/-- The accumulators when the query blocks before `b` are done: `a` is what the queries' held at first. -/
def upto (b : ℕ) (a : ℕ → ℕ → ℝ) : RA where
  dq r c := a r c + if r < 512 * b then ∑ x ∈ Finset.range 512, X.D j r x (c / 256) * X.k x c else 0
  dk x c := ∑ r ∈ Finset.range (512 * b), X.D j r x (c / 256) * X.q r c
  dv x c := ∑ r ∈ Finset.range (512 * b), X.P j r x (c / 128) * X.g r c

/-- Before the diagonal block nothing is added. -/
theorem upto_diag (a : ℕ → ℕ → ℝ) : upto X j j a = ⟨a, fun _ _ => 0, fun _ _ => 0⟩ := by
  unfold upto
  congr 1
  · funext r c
    split
    · rename_i h
      simp [X.D_zero j r _ _ h]
    · exact add_zero _
  · funext x c
    exact Finset.sum_eq_zero fun r hr => by rw [X.D_zero j r _ _ (Finset.mem_range.mp hr), zero_mul]
  · funext x c
    exact Finset.sum_eq_zero fun r hr => by rw [X.P_zero j r _ _ (Finset.mem_range.mp hr), zero_mul]

/-- A block's step leads to the next. -/
theorem step_upto (b : ℕ) (a : ℕ → ℕ → ℝ) : stepR X j (512 * b) (upto X j b a) = upto X j (b + 1) a := by
  unfold stepR upto
  congr 1
  · funext r c
    dsimp only
    by_cases h1 : r < 512 * b
    · rw [if_pos h1, if_neg (by omega), if_pos (by omega), add_zero]
    · by_cases h2 : r < 512 * b + 512
      · rw [if_neg h1, if_pos ⟨by omega, h2⟩, if_pos (by omega), add_zero]
      · rw [if_neg h1, if_neg (by omega), if_neg (by omega), add_zero]
  · funext x c
    rw [show 512 * (b + 1) = 512 * b + 512 by ring, sum_range_block]
  · funext x c
    rw [show 512 * (b + 1) = 512 * b + 512 by ring, sum_range_block]

/-- The accumulators start from zero. -/
theorem zero33 : Is (k0_pay33 (F := Ideal)) fun _ _ => 0 := by
  intro i
  unfold k0_pay33
  simp only [pointwise]
  simp
theorem zero34 : Is (k0_pay34 (F := Ideal)) fun _ _ => 0 := by
  intro i
  unfold k0_pay34
  simp only [pointwise]
  simp
theorem zero35 : Is (k0_pay35 (F := Ideal)) fun _ _ => 0 := by
  intro i
  unfold k0_pay35
  simp only [pointwise]
  simp

/-- After the diagonal block and `n` later ones. -/
theorem trips_is (i : grid0.Coords) (x : Blks Ideal) (hx : BlksAre x X) (a : Vec Ideal S4096x512 .f32) (A : ℕ → ℕ → ℝ) (ha : Is a A) :
    ∀ n, n ≤ (k0_t1_loop i).trips →
      AccIs (trips i x (diag i x ⟨a, k0_pay34 (F := Ideal), k0_pay35 (F := Ideal)⟩) n) (upto X (i 1).val ((i 1).val + 1 + n) A)
  | 0, _ => by
    have h := diag_is i x X hx ⟨a, k0_pay34 (F := Ideal), k0_pay35 (F := Ideal)⟩ (upto X (i 1).val (i 1).val A)
      (by rw [upto_diag]; exact ⟨ha, zero34, zero35⟩)
    rw [step_upto] at h
    exact h
  | n + 1, hn => by
    have h := trip_is i ⟨n, hn⟩ x X hx _ _ (trips_is i x hx a A ha n (Nat.le_of_succ_le hn))
    rw [step_upto] at h
    have e : trips i x (diag i x ⟨a, k0_pay34 (F := Ideal), k0_pay35 (F := Ideal)⟩) (n + 1)
        = trip i x ⟨n, hn⟩ (trips i x (diag i x ⟨a, k0_pay34 (F := Ideal), k0_pay35 (F := Ideal)⟩) n) := by
      show (if h : n < _ then _ else _) = _
      exact dif_pos (Nat.lt_of_succ_le hn)
    rw [e]
    exact h

/-- The accumulators after the whole point. -/
def pointR (a : ℕ → ℕ → ℝ) : RA where
  dq r c := a r c + ∑ x ∈ Finset.range 512, X.D j r x (c / 256) * X.k x c
  dk x c := ∑ r ∈ Finset.range 4096, X.D j r x (c / 256) * X.q r c
  dv x c := ∑ r ∈ Finset.range 4096, X.P j r x (c / 128) * X.g r c

theorem point_is (i : grid0.Coords) (x : Blks Ideal) (hx : BlksAre x X) (a : Vec Ideal S4096x512 .f32) (A : ℕ → ℕ → ℝ) (ha : Is a A) :
    AccIs (point i x a) (pointR X (i 1).val A) := by
  have h := trips_is X i x hx a A ha _ le_rfl
  have hj : (i 1).val < 8 := (i 1).isLt
  rw [trips_val, show (i 1).val + 1 + (7 - (i 1).val) = 8 by omega] at h
  unfold point
  rw [trips_val]
  refine ⟨is_congr h.dq fun r c hr _ => ?_, h.dk, h.dv⟩
  show A r c + (if r < 512 * 8 then _ else _) = _
  rw [if_pos (by omega)]
  rfl

end Cert.KernelIdeal.Gen

end
-- ==== Proof.Attention.lean ====
/- The attention step over the real numbers: scores under the block-causal mask, probabilities, and the gradient of a
   score, in the two forms the programs compute it. -/
module

public import proofs.«01_k».proof.Proof.Reals

@[expose] public section

noncomputable section

namespace Cert.Attention

open Idealize.ShloMosaic
open scoped BigOperators

/-- The scale of the scores: the number the word `0x3D93CD3A` stands for. -/
def scale : ℝ := (Ideal.ofBits .f32 0x3D93CD3A#32).toReal

theorem scale_eq : Ideal.ofBits .f32 0x3D93CD3A#32 = (scale : EReal) := by
  unfold scale
  have h : ∃ x : ℝ, Ideal.ofBits .f32 0x3D93CD3A#32 = (x : EReal) := by
    unfold Ideal.ofBits Ideal.ieee
    dsimp only
    rw [if_neg (by decide), if_neg (by decide)]
    exact ⟨_, rfl⟩
  obtain ⟨x, hx⟩ := h
  rw [hx, EReal.toReal_coe]

/-- The mask: a query sees the keys of its own chunk of 64 rows and of the chunks before. -/
def Sees (r k : ℕ) : Prop := k / 64 ≤ r / 64

instance (r k : ℕ) : Decidable (Sees r k) := by unfold Sees; infer_instance

/-- The arrays: queries, keys and values by row, head and lane, the output's gradient by row and column, and for every
    head and query a number taken off its scores before they are exponentiated. -/
structure Problem where
  q : ℕ → ℕ → ℕ → ℝ
  k : ℕ → ℕ → ℕ → ℝ
  v : ℕ → ℕ → ℕ → ℝ
  g : ℕ → ℕ → ℝ
  top : ℕ → ℕ → ℝ

namespace Problem

variable (X : Problem) (h r k d : ℕ)

/-- The score of query `r` and key `k` of head `h`, -/
def score : ℝ := (∑ l ∈ Finset.range 192, X.q r h l * X.k k h l) * scale
/-- its exponential, -/
def weight : ℝ := if Sees r k then Real.exp (X.score h r k - X.top h r) else 0
/-- the sum over the keys -/
def total : ℝ := ∑ k ∈ Finset.range 4096, X.weight h r k
/-- and the probability. -/
def prob : ℝ := X.weight h r k / X.total h r
/-- The attention's output, -/
def out : ℝ := ∑ k ∈ Finset.range 4096, X.v k h d * X.prob h r k
/-- the gradient of a probability, -/
def dprob : ℝ := ∑ d ∈ Finset.range 128, X.g r (128 * h + d) * X.v k h d
/-- the part of it the normalisation takes off, -/
def delta : ℝ := ∑ d ∈ Finset.range 128, X.out h r d * X.g r (128 * h + d)
/-- and the gradient of a score before the scale, -/
def dscore : ℝ := X.prob h r k * (X.dprob h r k - X.delta h r)
/-- which is also what the chain rule through the quotient gives. -/
def chain : ℝ := if Sees r k then
  (X.dprob h r k / X.total h r
    + -(∑ k ∈ Finset.range 4096, X.dprob h r k * (1 / (X.total h r * X.total h r)) * X.weight h r k)) * X.weight h r k else 0

/-- The gradient of a query, -/
def dq (l : ℕ) : ℝ := ∑ k ∈ Finset.range 4096, X.dscore h r k * scale * X.k k h l
/-- of a key -/
def dk (l : ℕ) : ℝ := ∑ r ∈ Finset.range 4096, X.dscore h r k * scale * X.q r h l
/-- and of a value. -/
def dv : ℝ := ∑ r ∈ Finset.range 4096, X.g r (128 * h + d) * X.prob h r k

theorem weight_nonneg : 0 ≤ X.weight h r k := by
  unfold weight
  split
  · exact (Real.exp_pos _).le
  · exact le_rfl

/-- Every query sees its own row. -/
theorem total_pos (hr : r < 4096) : 0 < X.total h r := by
  unfold total
  refine Finset.sum_pos' (fun k _ => X.weight_nonneg h r k) ⟨r, Finset.mem_range.mpr hr, ?_⟩
  unfold weight
  rw [if_pos (show Sees r r from le_rfl)]
  exact Real.exp_pos _

/-- What the normalisation takes off, as a sum over the keys. -/
theorem delta_eq : X.delta h r = ∑ k ∈ Finset.range 4096, X.prob h r k * X.dprob h r k := by
  unfold delta out dprob
  simp only [Finset.sum_mul, Finset.mul_sum]
  rw [Finset.sum_comm]
  exact Finset.sum_congr rfl fun k _ => Finset.sum_congr rfl fun d _ => by ring

theorem chain_eq (hr : r < 4096) : X.chain h r k = X.dscore h r k := by
  have hL := (X.total_pos h r hr).ne'
  unfold chain dscore
  rw [delta_eq]
  split
  · have e : ∑ k ∈ Finset.range 4096, X.dprob h r k * (1 / (X.total h r * X.total h r)) * X.weight h r k
        = (∑ k ∈ Finset.range 4096, X.prob h r k * X.dprob h r k) / X.total h r := by
      rw [Finset.sum_div]
      refine Finset.sum_congr rfl fun k _ => ?_
      unfold prob
      field_simp
    rw [e]
    unfold prob
    field_simp
    ring
  · rename_i hn
    unfold prob weight
    rw [if_neg hn, zero_div, zero_mul]

/-- The probability as a power of two, from the logarithm of the sum. -/
theorem prob_eq (hr : r < 4096) (hs : Sees r k) :
    Real.rpow 2 (X.score h r k / Real.log 2 - (X.top h r + Real.log (X.total h r)) / Real.log 2) = X.prob h r k := by
  have hL := X.total_pos h r hr
  have h2 : Real.log 2 ≠ 0 := (Real.log_pos (by norm_num)).ne'
  show (2 : ℝ) ^ (_ : ℝ) = _
  rw [Real.rpow_def_of_pos (by norm_num), ← sub_div, mul_div_cancel₀ _ h2]
  unfold prob weight
  rw [if_pos hs, sub_add_eq_sub_sub, Real.exp_sub, Real.exp_log hL]

end Problem

end Cert.Attention

end
-- ==== Proof.KernelIdeal.Grid.lean ====
/- The grid over the extended reals: when the arrays the launch reads hold real numbers, so do the blocks of every grid
   point, the accumulators it leaves, and the three arrays it writes. -/
module

public import proofs.«01_k».proof.Proof.KernelIdeal.Run
public import proofs.«01_k».proof.Proof.KernelIdeal.Point
public import proofs.«01_k».proof.Proof.Attention
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Reals
open Cert.Attention (scale scale_eq)

variable (m : (ℓ : Loc nD τ sig) → Buf (Elt Ideal) ℓ)

/-- The arrays over the reals: queries, keys, values and output gradients, head by head along their columns, and the two
    per-row numbers by row and head. -/
structure RArrays where
  q : ℕ → ℕ → ℝ
  k : ℕ → ℕ → ℝ
  v : ℕ → ℕ → ℝ
  g : ℕ → ℕ → ℝ
  lse : ℕ → ℕ → ℝ
  delta : ℕ → ℕ → ℝ

/-- The arrays the launch reads hold the real numbers `G`. -/
structure ArraysAre (c : Dev nD) (G : RArrays) : Prop where
  q : Is (V m c main_v7 : S4096x2048.Idx → EReal) G.q
  k : Is (V m c main_v10 : S4096x2048.Idx → EReal) G.k
  v : Is (V m c main_v12 : S4096x1024.Idx → EReal) G.v
  g : Is (V m c main_v51 : S4096x1024.Idx → EReal) G.g
  lse : Is (V m c main_v48 : S4096x1024.Idx → EReal) fun r c => G.lse r (c / 128)
  delta : Is (V m c main_v50 : S4096x1024.Idx → EReal) fun r c => G.delta r (c / 128)

/-- The blocks of head pair `h`, key block `j`. -/
def RArrays.block (G : RArrays) (h j : ℕ) : RB where
  q r c := G.q r (512 * h + c)
  k x c := G.k (512 * j + x) (512 * h + c)
  v x c := G.v (512 * j + x) (256 * h + c)
  g r c := G.g r (256 * h + c)
  lse r w := G.lse r (2 * h + w)
  delta r w := G.delta r (2 * h + w)

/-! ## Where the blocks lie -/

theorem at0_0 : ∀ t : Fin cfg0.N, win0_0.index t 0 = 0 ∧ win0_0.index t 1 = t.val / 8 := by decide +kernel
theorem at0_1 : ∀ t : Fin cfg0.N, win0_1.index t 0 = t.val % 8 ∧ win0_1.index t 1 = t.val / 8 := by decide +kernel
theorem at0_2 : ∀ t : Fin cfg0.N, win0_2.index t 0 = t.val % 8 ∧ win0_2.index t 1 = t.val / 8 := by decide +kernel
theorem at0_3 : ∀ t : Fin cfg0.N, win0_3.index t 0 = 0 ∧ win0_3.index t 1 = t.val / 8 := by decide +kernel
theorem at0_4 : ∀ t : Fin cfg0.N, win0_4.index t 0 = 0 ∧ win0_4.index t 1 = t.val / 8 := by decide +kernel
theorem at0_5 : ∀ t : Fin cfg0.N, win0_5.index t 0 = 0 ∧ win0_5.index t 1 = t.val / 8 := by decide +kernel
theorem at0_6 : ∀ t : Fin cfg0.N, win0_6.index t 0 = 0 ∧ win0_6.index t 1 = t.val / 8 := by decide +kernel
theorem at0_7 : ∀ t : Fin cfg0.N, win0_7.index t 0 = t.val % 8 ∧ win0_7.index t 1 = t.val / 8 := by decide +kernel
theorem at0_8 : ∀ t : Fin cfg0.N, win0_8.index t 0 = t.val % 8 ∧ win0_8.index t 1 = t.val / 8 := by decide +kernel

theorem coord1 (t : Fin cfg0.N) : (grid0.coords t 1).val = t.val % 8 := by
  rw [← (at0_1 t).1]
  revert t
  decide +kernel

/-! ## The blocks -/

theorem iblk0_is (c : Dev nD) (G : RArrays) (hG : ArraysAre m c G) (t : Fin cfg0.N) :
    Is (iblk m c 0 t : S4096x512.Idx → EReal) (G.block (t.val / 8) (t.val % 8)).q := by
  intro y
  have e := hG.q (((cfg0.win 0).blk t).view.emb y)
  have h0 : ((((cfg0.win 0).blk t).view.emb y) 0).val = (y 0).val := by
    refine (win0_0.rect_emb_val t y 0).trans ?_
    rw [(at0_0 t).1]
    show _ * 4096 + _ = _
    omega
  have h1 : ((((cfg0.win 0).blk t).view.emb y) 1).val = 512 * (t.val / 8) + (y 1).val := by
    refine (win0_0.rect_emb_val t y 1).trans ?_
    rw [(at0_0 t).2]
    show _ * 512 + _ = _
    omega
  refine Eq.trans ?_ (e.trans ?_)
  · rfl
  · rw [h0, h1]
    rfl

theorem iblk1_is (c : Dev nD) (G : RArrays) (hG : ArraysAre m c G) (t : Fin cfg0.N) :
    Is (iblk m c 1 t : S512x512.Idx → EReal) (G.block (t.val / 8) (t.val % 8)).k := by
  intro y
  have e := hG.k (((cfg0.win 1).blk t).view.emb y)
  have h0 : ((((cfg0.win 1).blk t).view.emb y) 0).val = 512 * (t.val % 8) + (y 0).val := by
    refine (win0_1.rect_emb_val t y 0).trans ?_
    rw [(at0_1 t).1]
    show _ * 512 + _ = _
    omega
  have h1 : ((((cfg0.win 1).blk t).view.emb y) 1).val = 512 * (t.val / 8) + (y 1).val := by
    refine (win0_1.rect_emb_val t y 1).trans ?_
    rw [(at0_1 t).2]
    show _ * 512 + _ = _
    omega
  refine Eq.trans ?_ (e.trans ?_)
  · rfl
  · rw [h0, h1]
    rfl

theorem iblk2_is (c : Dev nD) (G : RArrays) (hG : ArraysAre m c G) (t : Fin cfg0.N) :
    Is (iblk m c 2 t : S512x256.Idx → EReal) (G.block (t.val / 8) (t.val % 8)).v := by
  intro y
  have e := hG.v (((cfg0.win 2).blk t).view.emb y)
  have h0 : ((((cfg0.win 2).blk t).view.emb y) 0).val = 512 * (t.val % 8) + (y 0).val := by
    refine (win0_2.rect_emb_val t y 0).trans ?_
    rw [(at0_2 t).1]
    show _ * 512 + _ = _
    omega
  have h1 : ((((cfg0.win 2).blk t).view.emb y) 1).val = 256 * (t.val / 8) + (y 1).val := by
    refine (win0_2.rect_emb_val t y 1).trans ?_
    rw [(at0_2 t).2]
    show _ * 256 + _ = _
    omega
  refine Eq.trans ?_ (e.trans ?_)
  · rfl
  · rw [h0, h1]
    rfl

theorem iblk3_is (c : Dev nD) (G : RArrays) (hG : ArraysAre m c G) (t : Fin cfg0.N) :
    Is (iblk m c 3 t : S4096x256.Idx → EReal) (G.block (t.val / 8) (t.val % 8)).g := by
  intro y
  have e := hG.g (((cfg0.win 3).blk t).view.emb y)
  have h0 : ((((cfg0.win 3).blk t).view.emb y) 0).val = (y 0).val := by
    refine (win0_3.rect_emb_val t y 0).trans ?_
    rw [(at0_3 t).1]
    show _ * 4096 + _ = _
    omega
  have h1 : ((((cfg0.win 3).blk t).view.emb y) 1).val = 256 * (t.val / 8) + (y 1).val := by
    refine (win0_3.rect_emb_val t y 1).trans ?_
    rw [(at0_3 t).2]
    show _ * 256 + _ = _
    omega
  refine Eq.trans ?_ (e.trans ?_)
  · rfl
  · rw [h0, h1]
    rfl

theorem iblk4_is (c : Dev nD) (G : RArrays) (hG : ArraysAre m c G) (t : Fin cfg0.N) :
    Is (iblk m c 4 t : S4096x256.Idx → EReal) fun r c => (G.block (t.val / 8) (t.val % 8)).lse r (c / 128) := by
  intro y
  have e := hG.lse (((cfg0.win 4).blk t).view.emb y)
  have h0 : ((((cfg0.win 4).blk t).view.emb y) 0).val = (y 0).val := by
    refine (win0_4.rect_emb_val t y 0).trans ?_
    rw [(at0_4 t).1]
    show _ * 4096 + _ = _
    omega
  have h1 : ((((cfg0.win 4).blk t).view.emb y) 1).val = 256 * (t.val / 8) + (y 1).val := by
    refine (win0_4.rect_emb_val t y 1).trans ?_
    rw [(at0_4 t).2]
    show _ * 256 + _ = _
    omega
  refine Eq.trans ?_ (e.trans ?_)
  · rfl
  · rw [h0, h1]
    unfold RArrays.block
    dsimp only
    congr 2
    omega

theorem iblk5_is (c : Dev nD) (G : RArrays) (hG : ArraysAre m c G) (t : Fin cfg0.N) :
    Is (iblk m c 5 t : S4096x256.Idx → EReal) fun r c => (G.block (t.val / 8) (t.val % 8)).delta r (c / 128) := by
  intro y
  have e := hG.delta (((cfg0.win 5).blk t).view.emb y)
  have h0 : ((((cfg0.win 5).blk t).view.emb y) 0).val = (y 0).val := by
    refine (win0_5.rect_emb_val t y 0).trans ?_
    rw [(at0_5 t).1]
    show _ * 4096 + _ = _
    omega
  have h1 : ((((cfg0.win 5).blk t).view.emb y) 1).val = 256 * (t.val / 8) + (y 1).val := by
    refine (win0_5.rect_emb_val t y 1).trans ?_
    rw [(at0_5 t).2]
    show _ * 256 + _ = _
    omega
  refine Eq.trans ?_ (e.trans ?_)
  · rfl
  · rw [h0, h1]
    unfold RArrays.block
    dsimp only
    congr 2
    omega

theorem blks_are (c : Dev nD) (G : RArrays) (hG : ArraysAre m c G) (t : Fin cfg0.N) :
    BlksAre (blks m c t) (G.block (t.val / 8) (t.val % 8)) := by
  unfold blks
  constructor
  · dsimp only; exact iblk0_is m c G hG t
  · dsimp only; exact iblk1_is m c G hG t
  · dsimp only; exact iblk2_is m c G hG t
  · dsimp only; exact iblk3_is m c G hG t
  · dsimp only; exact iblk4_is m c G hG t
  · dsimp only; exact iblk5_is m c G hG t

/-! ## The accumulators along the grid -/

/-- The queries' gradient after `n` key blocks of head pair `h`. -/
def RArrays.dqUpto (G : RArrays) (h n r c : ℕ) : ℝ :=
  ∑ j ∈ Finset.range n, ∑ x ∈ Finset.range 512, (G.block h j).D j r x (c / 256) * (G.block h j).k x c

theorem pointAt_is (c : Dev nD) (G : RArrays) (hG : ArraysAre m c G) : ∀ (n : ℕ) (hn : n < cfg0.N),
    AccIs (pointAt m c n hn) (pointR (G.block (n / 8) (n % 8)) (n % 8) (G.dqUpto (n / 8) (n % 8))) := by
  intro n
  induction n with
  | zero =>
    intro hn
    have h := point_is (G.block (0 / 8) (0 % 8)) (grid0.coords ⟨0, hn⟩) _ (blks_are m c G hG ⟨0, hn⟩) _ _ zero33
    rw [coord1] at h
    exact h
  | succ n ih =>
    intro hn
    by_cases h0 : (n + 1) % 8 = 0
    · have h := point_is (G.block ((n + 1) / 8) ((n + 1) % 8)) (grid0.coords ⟨n + 1, hn⟩) _ (blks_are m c G hG ⟨n + 1, hn⟩) _ _ zero33
      rw [coord1] at h
      have e := pointAt_first m c ⟨n + 1, hn⟩ h0
      dsimp only at e h
      rw [e]
      have e2 : G.dqUpto ((n + 1) / 8) ((n + 1) % 8) = fun _ _ => 0 := by
        funext r c
        rw [h0]
        rfl
      rw [e2]
      exact h
    · have h := point_is (G.block ((n + 1) / 8) ((n + 1) % 8)) (grid0.coords ⟨n + 1, hn⟩) _ (blks_are m c G hG ⟨n + 1, hn⟩) _ _
        (ih (Nat.lt_of_succ_lt hn)).dq
      rw [coord1] at h
      have e := pointAt_next m c ⟨n + 1, hn⟩ h0
      dsimp only at e h
      rw [show pointAt m c (n + 1) hn = _ from e]
      have e2 : G.dqUpto ((n + 1) / 8) ((n + 1) % 8)
          = (pointR (G.block (n / 8) (n % 8)) (n % 8) (G.dqUpto (n / 8) (n % 8))).dq := by
        funext r c
        rw [show (n + 1) / 8 = n / 8 by omega, show (n + 1) % 8 = n % 8 + 1 by omega]
        unfold RArrays.dqUpto pointR
        rw [Finset.sum_range_succ]
      rw [e2]
      exact h

/-! ## What is written back -/

theorem ln2_named : Named.named (F := Ideal) (φ := .f32) κ "ln2" 0x3F317218#32 = ((Real.log 2 : ℝ) : EReal) :=
  IdealRules.named_const.ideal_named_scalar _ _ _ _ rfl

theorem out6_is (x : Vec Ideal S4096x512 .f32) (A : ℕ → ℕ → ℝ) (h : Is x A) : Is (k0_pay2 (F := Ideal) x) fun r c => A r c * scale := by
  intro i
  unfold k0_pay2
  simp only [pointwise]
  rw [h i]
  refine (congrArg _ scale_eq).trans ?_
  rw [← EReal.coe_mul]

theorem out7_is (x : Vec Ideal S512x512 .f32) (A : ℕ → ℕ → ℝ) (h : Is x A) : Is (k0_pay62 (F := Ideal) x) fun r c => A r c * Real.log 2 := by
  intro i
  unfold k0_pay62
  simp only [pointwise]
  rw [h i]
  refine (congrArg _ ln2_named).trans ?_
  rw [← EReal.coe_mul]

theorem out8_is (x : Vec Ideal S512x256 .f32) (A : ℕ → ℕ → ℝ) (h : Is x A) : Is (k0_pay1 (F := Ideal) x) A := by
  intro i
  unfold k0_pay1
  simp only [pointwise]
  exact h i

/-- The queries' gradient: over all keys, -/
def RArrays.dq (G : RArrays) (r c : ℕ) : ℝ := G.dqUpto (c / 512) 8 r (c % 512) * scale
/-- the keys' gradient -/
def RArrays.dk (G : RArrays) (x c : ℕ) : ℝ :=
  (pointR (G.block (c / 512) (x / 512)) (x / 512) fun _ _ => 0).dk (x % 512) (c % 512) * Real.log 2
/-- and the values'. -/
def RArrays.dv (G : RArrays) (x c : ℕ) : ℝ :=
  (pointR (G.block (c / 256) (x / 512)) (x / 512) fun _ _ => 0).dv (x % 512) (c % 256)

theorem final6_is (c : Dev nD) (G : RArrays) (hG : ArraysAre m c G) :
    Is ((dats m 0 c).arrAt 6 cfg0.N : S4096x2048.Idx → EReal) G.dq := by
  intro i
  refine (dats m 0 c).arrAt_forall_of_covers 6 (fun (i : S4096x2048.Idx) (v : EReal) => v = ((G.dq (i 0).val (i 1).val : ℝ) : EReal))
    (by decide +kernel) (fun t hf y => ?_) i
  have h0 : ((((cfg0.win 6).blk t).view.emb y) 0).val = (y 0).val := by
    refine (win0_6.rect_emb_val t y 0).trans ?_
    rw [(at0_6 t).1]
    show _ * 4096 + _ = _
    omega
  have h1 : ((((cfg0.win 6).blk t).view.emb y) 1).val = 512 * (t.val / 8) + (y 1).val := by
    refine (win0_6.rect_emb_val t y 1).trans ?_
    rw [(at0_6 t).2]
    show _ * 512 + _ = _
    omega
  have b0 : (y 0).val < 4096 := (y 0).isLt
  have b1 : (y 1).val < 512 := (y 1).isLt
  have hp := out6_is _ _ (pointAt_is m c G hG t.val t.isLt).dq y
  rw [after0_6]
  dsimp only
  rw [h0, h1]
  refine Eq.trans ?_ (hp.trans ?_)
  · rfl
  · have h7 : t.val % 8 = 7 := (flush0_6 t).mp hf
    unfold RArrays.dq
    rw [show (512 * (t.val / 8) + (y 1).val) / 512 = t.val / 8 by omega,
      show (512 * (t.val / 8) + (y 1).val) % 512 = (y 1).val by omega, h7]
    unfold RArrays.dqUpto pointR
    rw [Finset.sum_range_succ]

theorem final7_is (c : Dev nD) (G : RArrays) (hG : ArraysAre m c G) :
    Is ((dats m 0 c).arrAt 7 cfg0.N : S4096x2048.Idx → EReal) G.dk := by
  intro i
  refine (dats m 0 c).arrAt_forall_of_covers 7 (fun (i : S4096x2048.Idx) (v : EReal) => v = ((G.dk (i 0).val (i 1).val : ℝ) : EReal))
    (by decide +kernel) (fun t hf y => ?_) i
  have h0 : ((((cfg0.win 7).blk t).view.emb y) 0).val = 512 * (t.val % 8) + (y 0).val := by
    refine (win0_7.rect_emb_val t y 0).trans ?_
    rw [(at0_7 t).1]
    show _ * 512 + _ = _
    omega
  have h1 : ((((cfg0.win 7).blk t).view.emb y) 1).val = 512 * (t.val / 8) + (y 1).val := by
    refine (win0_7.rect_emb_val t y 1).trans ?_
    rw [(at0_7 t).2]
    show _ * 512 + _ = _
    omega
  have b0 : (y 0).val < 512 := (y 0).isLt
  have b1 : (y 1).val < 512 := (y 1).isLt
  have hp := out7_is _ _ (pointAt_is m c G hG t.val t.isLt).dk y
  rw [after0_7]
  dsimp only
  rw [h0, h1]
  refine Eq.trans ?_ (hp.trans ?_)
  · rfl
  · unfold RArrays.dk
    rw [show (512 * (t.val / 8) + (y 1).val) / 512 = t.val / 8 by omega,
      show (512 * (t.val / 8) + (y 1).val) % 512 = (y 1).val by omega,
      show (512 * (t.val % 8) + (y 0).val) / 512 = t.val % 8 by omega,
      show (512 * (t.val % 8) + (y 0).val) % 512 = (y 0).val by omega]
    rfl

theorem final8_is (c : Dev nD) (G : RArrays) (hG : ArraysAre m c G) :
    Is ((dats m 0 c).arrAt 8 cfg0.N : S4096x1024.Idx → EReal) G.dv := by
  intro i
  refine (dats m 0 c).arrAt_forall_of_covers 8 (fun (i : S4096x1024.Idx) (v : EReal) => v = ((G.dv (i 0).val (i 1).val : ℝ) : EReal))
    (by decide +kernel) (fun t hf y => ?_) i
  have h0 : ((((cfg0.win 8).blk t).view.emb y) 0).val = 512 * (t.val % 8) + (y 0).val := by
    refine (win0_8.rect_emb_val t y 0).trans ?_
    rw [(at0_8 t).1]
    show _ * 512 + _ = _
    omega
  have h1 : ((((cfg0.win 8).blk t).view.emb y) 1).val = 256 * (t.val / 8) + (y 1).val := by
    refine (win0_8.rect_emb_val t y 1).trans ?_
    rw [(at0_8 t).2]
    show _ * 256 + _ = _
    omega
  have b0 : (y 0).val < 512 := (y 0).isLt
  have b1 : (y 1).val < 256 := (y 1).isLt
  have hp := out8_is _ _ (pointAt_is m c G hG t.val t.isLt).dv y
  rw [after0_8]
  dsimp only
  rw [h0, h1]
  refine Eq.trans ?_ (hp.trans ?_)
  · rfl
  · unfold RArrays.dv
    rw [show (256 * (t.val / 8) + (y 1).val) / 256 = t.val / 8 by omega,
      show (256 * (t.val / 8) + (y 1).val) % 256 = (y 1).val by omega,
      show (512 * (t.val % 8) + (y 0).val) / 512 = t.val % 8 by omega,
      show (512 * (t.val % 8) + (y 0).val) % 512 = (y 0).val by omega]
    rfl

end Cert.KernelIdeal.Gen

end
-- ==== Proof.KernelIdeal.Meets.lean ====
/- What the grid leaves, when its arrays are those of an attention problem: the problem's gradients. -/
module

public import proofs.«01_k».proof.Proof.KernelIdeal.Grid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Reals
open Cert.Attention (scale Problem Sees)

theorem log2_ne : Real.log 2 ≠ 0 := (Real.log_pos (by norm_num)).ne'

variable (X : Problem)

/-- The arrays the launch reads: 192 lanes of a head followed by 64 zeros, the queries scaled for powers of two. -/
def arrays : RArrays where
  q r c := if c % 256 < 192 then X.q r (c / 256) (c % 256) * (scale / Real.log 2) else 0
  k r c := if c % 256 < 192 then X.k r (c / 256) (c % 256) else 0
  v r c := X.v r (c / 128) (c % 128)
  g := X.g
  lse r h := (X.top h r + Real.log (X.total h r)) / Real.log 2
  delta r h := X.delta h r

variable (h j r x w : ℕ)

theorem block_score :
    score (fun r c => ((arrays X).block h j).q r (256 * w + c)) (fun k c => ((arrays X).block h j).k k (256 * w + c)) r x
      = X.score (2 * h + w) r (512 * j + x) / Real.log 2 := by
  unfold score Problem.score
  rw [sum_range_of_zero (n := 192) (m := 256) (by norm_num)]
  · rw [Finset.sum_mul, Finset.sum_div]
    refine Finset.sum_congr rfl fun l hl => ?_
    have hl : l < 192 := Finset.mem_range.mp hl
    unfold RArrays.block arrays
    dsimp only
    rw [show (512 * h + (256 * w + l)) % 256 = l by omega, show (512 * h + (256 * w + l)) / 256 = 2 * h + w by omega, if_pos hl, if_pos hl]
    ring
  · intro l h1 h2
    unfold RArrays.block arrays
    dsimp only
    rw [show (512 * h + (256 * w + l)) % 256 = l by omega, if_neg (by omega), zero_mul]

theorem block_P (hr : r < 4096) : ((arrays X).block h j).P j r x w = X.prob (2 * h + w) r (512 * j + x) := by
  unfold RB.P
  rw [block_score]
  by_cases hs : Sees r (512 * j + x)
  · rw [if_pos (show Vis r (512 * j + x) from hs)]
    exact X.prob_eq _ _ _ hr hs
  · rw [if_neg (show ¬Vis r (512 * j + x) from hs)]
    unfold Problem.prob Problem.weight
    rw [if_neg hs, zero_div]

theorem block_D (hr : r < 4096) : ((arrays X).block h j).D j r x w = X.dscore (2 * h + w) r (512 * j + x) := by
  unfold RB.D Problem.dscore
  rw [block_P X h j r x w hr]
  congr 2
  unfold dprob Problem.dprob
  refine Finset.sum_congr rfl fun d hd => ?_
  have hd : d < 128 := Finset.mem_range.mp hd
  unfold RArrays.block arrays
  dsimp only
  rw [show 256 * h + (128 * w + d) = 128 * (2 * h + w) + d by ring, show (128 * (2 * h + w) + d) / 128 = 2 * h + w by omega,
    show (128 * (2 * h + w) + d) % 128 = d by omega]

/-- A sum over blocks of 512 is a sum over all. -/
theorem sum_blocks (f : ℕ → ℝ) : ∀ n, ∑ j ∈ Finset.range n, ∑ x ∈ Finset.range 512, f (512 * j + x) = ∑ k ∈ Finset.range (512 * n), f k
  | 0 => rfl
  | n + 1 => by
    rw [Finset.sum_range_succ, sum_blocks f n, show 512 * (n + 1) = 512 * n + 512 by ring, sum_range_block]

theorem dq_eq (c : ℕ) (hr : r < 4096) :
    (arrays X).dq r c = if c % 256 < 192 then X.dq (c / 256) r (c % 256) else 0 := by
  unfold RArrays.dq RArrays.dqUpto
  have e : ∀ j x, ((arrays X).block (c / 512) j).D j r x (c % 512 / 256) * ((arrays X).block (c / 512) j).k x (c % 512)
      = (fun k => X.dscore (c / 256) r k * (arrays X).k k c) (512 * j + x) := by
    intro j x
    rw [block_D X _ j r x _ hr, show 2 * (c / 512) + c % 512 / 256 = c / 256 by omega]
    show _ * (arrays X).k (512 * j + x) (512 * (c / 512) + c % 512) = _
    rw [show 512 * (c / 512) + c % 512 = c by omega]
  rw [Finset.sum_congr rfl fun j _ => Finset.sum_congr rfl fun x _ => e j x, sum_blocks (fun k => X.dscore (c / 256) r k * (arrays X).k k c) 8]
  split
  · rename_i hc
    unfold Problem.dq
    rw [Finset.sum_mul]
    refine Finset.sum_congr rfl fun k _ => ?_
    unfold arrays
    dsimp only
    rw [if_pos hc]
    ring
  · rename_i hc
    rw [Finset.sum_eq_zero, zero_mul]
    intro k _
    unfold arrays
    dsimp only
    rw [if_neg hc, mul_zero]

theorem dk_eq (c : ℕ) :
    (arrays X).dk x c = if c % 256 < 192 then X.dk (c / 256) x (c % 256) else 0 := by
  unfold RArrays.dk pointR
  dsimp only
  have e : ∀ r ∈ Finset.range 4096, ((arrays X).block (c / 512) (x / 512)).D (x / 512) r (x % 512) (c % 512 / 256)
        * ((arrays X).block (c / 512) (x / 512)).q r (c % 512)
      = X.dscore (c / 256) r x * (arrays X).q r c := by
    intro r hr
    rw [block_D X _ _ r _ _ (Finset.mem_range.mp hr), show 2 * (c / 512) + c % 512 / 256 = c / 256 by omega,
      show 512 * (x / 512) + x % 512 = x by omega]
    show _ * (arrays X).q r (512 * (c / 512) + c % 512) = _
    rw [show 512 * (c / 512) + c % 512 = c by omega]
  rw [Finset.sum_congr rfl e]
  split
  · rename_i hc
    unfold Problem.dk
    rw [Finset.sum_mul]
    refine Finset.sum_congr rfl fun r _ => ?_
    unfold arrays
    dsimp only
    rw [if_pos hc]
    have := log2_ne
    field_simp
  · rename_i hc
    rw [Finset.sum_eq_zero, zero_mul]
    intro k _
    unfold arrays
    dsimp only
    rw [if_neg hc, mul_zero]

theorem dv_eq (c : ℕ) : (arrays X).dv x c = X.dv (c / 128) x (c % 128) := by
  unfold RArrays.dv pointR Problem.dv
  dsimp only
  refine Finset.sum_congr rfl fun r hr => ?_
  rw [block_P X _ _ r _ _ (Finset.mem_range.mp hr), show 2 * (c / 256) + c % 256 / 128 = c / 128 by omega,
    show 512 * (x / 512) + x % 512 = x by omega]
  show _ * X.g r (256 * (c / 256) + c % 256) = _
  rw [show 256 * (c / 256) + c % 256 = c by omega, show 128 * (c / 128) + c % 128 = c by omega, mul_comm]

end Cert.KernelIdeal.Gen

end
-- ==== Proof.Cubes.lean ====
/- Arrays of three axes that hold real numbers: their padding and their reshapes to and from two axes. -/
module

public import proofs.«01_k».proof.Proof.Reals
public import Idealize.ShloMosaic.Lib.KernelVsHost

@[expose] public section

noncomputable section

namespace Cert.Reals

open Idealize.ShloMosaic
open scoped BigOperators

/-- The array `a` of three axes holds the real numbers `A`. -/
def Is3 {n0 n1 n2 : ℕ} (a : (⟨3, ![n0, n1, n2]⟩ : Shape).Idx → EReal) (A : ℕ → ℕ → ℕ → ℝ) : Prop :=
  ∀ i, a i = ((A (i 0).val (i 1).val (i 2).val : ℝ) : EReal)

/-- Padded with 64 zero lanes. -/
theorem pad_lanes {u : Shape} (x : (⟨3, ![4096, 8, 192]⟩ : Shape).Idx → EReal) (A : ℕ → ℕ → ℕ → ℝ) (hx : Is3 x A)
    (v : u.Idx → EReal) (hv : ∀ i, v i = 0)
    (h : (⟨3, ![4096, 8, 192]⟩ : Shape).Pads ![0, 0, 0] ![0, 0, 64] ![0, 0, 0] ⟨3, ![4096, 8, 256]⟩) (hu : 0 < u.numel) :
    Is3 (pad ⟨3, ![4096, 8, 256]⟩ ![0, 0, 0] ![0, 0, 64] ![0, 0, 0] x v h hu) fun r w l => if l < 192 then A r w l else 0 := by
  intro i
  by_cases hl : (i 2).val < 192
  · have e := pad_apply_of_inside (t := ⟨3, ![4096, 8, 256]⟩) ![0, 0, 0] ![0, 0, 64] ![0, 0, 0] x v h hu i
      (fun a => match a with | ⟨0, _⟩ => ⟨(i 0).val, (i 0).isLt⟩ | ⟨1, _⟩ => ⟨(i 1).val, (i 1).isLt⟩ | ⟨2, _⟩ => ⟨(i 2).val, hl⟩)
      (fun a => match a with
        | ⟨0, _⟩ => by show (i 0).val = 0 + (i 0).val * (0 + 1); omega
        | ⟨1, _⟩ => by show (i 1).val = 0 + (i 1).val * (0 + 1); omega
        | ⟨2, _⟩ => by show (i 2).val = 0 + (i 2).val * (0 + 1); omega)
    rw [e, hx]
    dsimp only
    rw [if_pos hl]
  · have e := pad_apply_of_not_inside (t := ⟨3, ![4096, 8, 256]⟩) ![0, 0, 0] ![0, 0, 64] ![0, 0, 0] x v h hu i 2 (by
      intro hh
      have := hh.2.2
      exact hl (by
        have e : ((i 2).val - 0) / (0 + 1) < 192 := this
        omega))
    rw [e, hv]
    dsimp only
    rw [if_neg hl]
    rfl

/-- Heads of 256 lanes laid side by side, -/
theorem flat256 (x : (⟨3, ![4096, 8, 256]⟩ : Shape).Idx → EReal) (A : ℕ → ℕ → ℕ → ℝ) (hx : Is3 x A)
    (h : (⟨3, ![4096, 8, 256]⟩ : Shape).ShapeCasts ⟨2, ![4096, 2048]⟩) :
    Is (shapeCast ⟨2, ![4096, 2048]⟩ x h) fun r c => A r (c / 256) (c % 256) := by
  intro i
  have h0 : (i 0).val < 4096 := (i 0).isLt
  have h1 : (i 1).val < 2048 := (i 1).isLt
  rw [shapeCast_apply x h i (fun a => match a with
    | ⟨0, _⟩ => ⟨(i 0).val, h0⟩ | ⟨1, _⟩ => ⟨(i 1).val / 256, by show _ < 8; omega⟩ | ⟨2, _⟩ => ⟨(i 1).val % 256, by show _ < 256; omega⟩)
    (by rewrite [Shape.rowMajor_val_three, Shape.rowMajor_val_two]
        show ((i 0).val * 8 + (i 1).val / 256) * 256 + (i 1).val % 256 = (i 0).val * 2048 + (i 1).val
        omega), hx]

/-- and of 128 lanes, -/
theorem flat128 (x : (⟨3, ![4096, 8, 128]⟩ : Shape).Idx → EReal) (A : ℕ → ℕ → ℕ → ℝ) (hx : Is3 x A)
    (h : (⟨3, ![4096, 8, 128]⟩ : Shape).ShapeCasts ⟨2, ![4096, 1024]⟩) :
    Is (shapeCast ⟨2, ![4096, 1024]⟩ x h) fun r c => A r (c / 128) (c % 128) := by
  intro i
  have h0 : (i 0).val < 4096 := (i 0).isLt
  have h1 : (i 1).val < 1024 := (i 1).isLt
  rw [shapeCast_apply x h i (fun a => match a with
    | ⟨0, _⟩ => ⟨(i 0).val, h0⟩ | ⟨1, _⟩ => ⟨(i 1).val / 128, by show _ < 8; omega⟩ | ⟨2, _⟩ => ⟨(i 1).val % 128, by show _ < 128; omega⟩)
    (by rewrite [Shape.rowMajor_val_three, Shape.rowMajor_val_two]
        show ((i 0).val * 8 + (i 1).val / 128) * 128 + (i 1).val % 128 = (i 0).val * 1024 + (i 1).val
        omega), hx]

/-- and taken apart again. -/
theorem heads128 (x : (⟨2, ![4096, 1024]⟩ : Shape).Idx → EReal) (A : ℕ → ℕ → ℝ) (hx : Is x A)
    (h : (⟨2, ![4096, 1024]⟩ : Shape).ShapeCasts ⟨3, ![4096, 8, 128]⟩) :
    Is3 (shapeCast ⟨3, ![4096, 8, 128]⟩ x h) fun r w d => A r (128 * w + d) := by
  intro i
  have h0 : (i 0).val < 4096 := (i 0).isLt
  have h1 : (i 1).val < 8 := (i 1).isLt
  have h2 : (i 2).val < 128 := (i 2).isLt
  rw [shapeCast_apply x h i (fun a => match a with
    | ⟨0, _⟩ => ⟨(i 0).val, h0⟩ | ⟨1, _⟩ => ⟨128 * (i 1).val + (i 2).val, by show _ < 1024; omega⟩)
    (by rewrite [Shape.rowMajor_val_three, Shape.rowMajor_val_two]
        show (i 0).val * 1024 + (128 * (i 1).val + (i 2).val) = ((i 0).val * 8 + (i 1).val) * 128 + (i 2).val
        omega), hx]

end Cert.Reals

end
-- ==== Proof.Plain.lean ====
/- The reference over the real numbers: when its arguments are those of an attention problem, its stages hold the
   problem's scores, probabilities and gradients. -/
module

public import proofs.«01_k».proof.Proof.Attention
public import proofs.«01_k».proof.Proof.Cubes
public import proofs.«01_k».proof.Proof.Gen.ReferenceIdeal.Read

@[expose] public section

noncomputable section

namespace Cert.ReferenceIdeal.Read

open Cert.ReferenceIdeal Cert.ReferenceIdeal.Gen Idealize.ShloMosaic
open Cert.Reals Cert.Attention
open scoped BigOperators

variable (x0 x1 : S4096x8x192.Idx → EReal) (x2 : S4096x8x128.Idx → EReal) (x3 : S4096x1024.Idx → EReal) (X : Problem)

/-- The sum of the probabilities' gradient over a row, as the softmax's denominator receives it. -/
def spread (h r : ℕ) : ℝ :=
  ∑ k ∈ Finset.range 4096, X.dprob h r k * (1 / (X.total h r * X.total h r)) * X.weight h r k

/-! ## The mask -/

theorem chunk_word : ∀ r : Fin 4096, IntOp.divsi .host (BitVec.ofNat 32 r.val) 64#32 = BitVec.ofNat 32 (r.val / 64) := by
  decide +kernel

theorem cmp_word : ∀ a b : Fin 64, IntOp.cmpi .sle (BitVec.ofNat 32 a.val) (BitVec.ofNat 32 b.val) = if a.val ≤ b.val then 1#1 else 0#1 := by
  decide +kernel

theorem chunk_at (i : S4096.Idx) : val_main_v5 (F := Ideal) i = BitVec.ofNat 32 ((i 0).val / 64) := by
  rw [val_main_v5_apply, val_main_v3_apply, val_main_v4_apply]
  exact chunk_word ⟨(i 0).val, (i 0).isLt⟩

theorem mask_at (i : S8x4096x4096.Idx) : val_main_v11_1 (F := Ideal) i = if Sees (i 1).val (i 2).val then 1#1 else 0#1 := by
  have h1 : (i 1).val < 4096 := (i 1).isLt
  have h2 : (i 2).val < 4096 := (i 2).isLt
  rw [val_main_v11_1_apply, val_main_v10_apply, val_main_v8_apply, val_main_v9_apply, val_main_v6_apply, val_main_v7_apply, chunk_at, chunk_at]
  exact cmp_word ⟨(i 2).val / 64, by omega⟩ ⟨(i 1).val / 64, by omega⟩

/-! ## The cotangent -/

section
variable (h2 : Is3 x2 X.v) (h3 : Is x3 X.g)
include h3

theorem cot_at (j : S8x128x4096.Idx) : val_main_v44 (F := Ideal) x3 j = ((X.g (j 2).val (128 * (j 0).val + (j 1).val) : ℝ) : EReal) := by
  rw [val_main_v44_apply]
  exact heads128 x3 X.g h3 _ _

include h2

theorem dprob_at : Is3 (val_main_v45 (F := Ideal) x2 x3) X.dprob := by
  intro i
  rw [val_main_v45_apply]
  exact (Finset.sum_congr rfl fun k _ => congrArg₂ (· * ·) (cot_at x3 X h3 _) (h2 _)).trans
    (sum_mul_coe (n := 128) (fun d => X.g (i 1).val (128 * (i 0).val + d)) (fun d => X.v (i 2).val (i 0).val d))

end

/-! ## The scores -/

/-- The entry of head `h` and query `r`. -/
def at2 (h r : ℕ) : S8x4096.Idx := fun a => match a with
  | ⟨0, _⟩ => (⟨h % 8, Nat.mod_lt _ (by norm_num)⟩ : Fin 8)
  | ⟨1, _⟩ => (⟨r % 4096, Nat.mod_lt _ (by norm_num)⟩ : Fin 4096)

/-- The largest scores, by head and query. -/
def tops (h r : ℕ) : ℝ := (val_main_v12 (F := Ideal) x0 x1 (at2 h r)).toReal

theorem neg_inf : FloatOps.ofBits (F := Ideal) .f32 0xFF800000#32 = (⊥ : EReal) := by
  show Ideal.ofBits .f32 0xFF800000#32 = ⊥
  unfold Ideal.ofBits Ideal.ieee
  dsimp only
  rw [if_pos (by decide), if_pos (by decide), if_pos (by decide)]

section
variable (h0 : Is3 x0 X.q) (h1 : Is3 x1 X.k)
include h0 h1

theorem score_at : Is3 (val_main_v2 (F := Ideal) x0 x1) X.score := by
  intro i
  rw [val_main_v2_apply, val_main_v0_apply, val_main_v1_apply]
  have e : ∑ k : Fin 192, x0 (lidx_main_v0 i k) * x1 (ridx_main_v0 i k)
      = ((∑ l ∈ Finset.range 192, X.q (i 1).val (i 0).val l * X.k (i 2).val (i 0).val l : ℝ) : EReal) :=
    (Finset.sum_congr rfl fun k _ => congrArg₂ (· * ·) (h0 _) (h1 _)).trans
      (sum_mul_coe (n := 192) (fun l => X.q (i 1).val (i 0).val l) (fun l => X.k (i 2).val (i 0).val l))
  rw [e]
  refine (congrArg _ scale_eq).trans ?_
  exact (EReal.coe_mul _ _).symm

theorem masked_at (i : S8x4096x4096.Idx) :
    val_main_v11_0 (F := Ideal) x0 x1 i = if Sees (i 1).val (i 2).val then ((X.score (i 0).val (i 1).val (i 2).val : ℝ) : EReal) else ⊥ := by
  rw [val_main_v11_0_apply, mask_at, score_at x0 x1 X h0 h1 i]
  unfold Scalar.select
  by_cases hs : Sees (i 1).val (i 2).val
  · rw [if_pos hs, if_pos hs]; exact if_pos rfl
  · rw [if_neg hs, if_neg hs]
    refine (if_neg (by decide)).trans ?_
    exact neg_inf

/-- The largest score of a query is a real number. -/
theorem top_real (i : S8x4096.Idx) : ∃ t : ℝ, val_main_v12 (F := Ideal) x0 x1 i = (t : EReal) := by
  have hb : (val_main_cst_1 (F := Ideal)) (Shape.Idx.first h_S_) = (⊥ : EReal) := neg_inf
  have e : val_main_v12 (F := Ideal) x0 x1 i
      = (Finset.univ : Finset (Fin 4096)).fold max (⊥ : EReal) fun k => val_main_v11_0 (F := Ideal) x0 x1 (idx_main_v33 i k) := by
    unfold val_main_v12
    refine (Host.reduce_eq_fold_single (α := EReal) max _ _ reducesTo_S8x4096x4096_S8x4096_d2 (by decide) h_S_ i).trans ?_
    rw [hb]
    refine congrArg (fun f => (Finset.univ : Finset (Fin 4096)).fold max (⊥ : EReal) f) ?_
    funext k
    exact congrArg (val_main_v11_0 (F := Ideal) x0 x1) (funext fun a => Fin.ext (by match a with | ⟨0, _⟩ => rfl | ⟨1, _⟩ => rfl | ⟨2, _⟩ => rfl))
  have ht : val_main_v12 (F := Ideal) x0 x1 i < ⊤ := by
    rw [e, Finset.fold_max_lt]
    refine ⟨bot_lt_top, fun k _ => ?_⟩
    rw [masked_at x0 x1 X h0 h1]
    split
    · exact EReal.coe_lt_top _
    · exact bot_lt_top
  have hbt : (⊥ : EReal) < val_main_v12 (F := Ideal) x0 x1 i := by
    rw [e, Finset.lt_fold_max]
    refine Or.inr ⟨(0 : Fin 4096), Finset.mem_univ _, ?_⟩
    rw [masked_at x0 x1 X h0 h1]
    have hs : Sees (idx_main_v33 i (0 : Fin 4096) 1).val (idx_main_v33 i (0 : Fin 4096) 2).val := by
      show 0 / 64 ≤ _
      simp
    exact (EReal.bot_lt_coe _).trans_eq (if_pos hs).symm
  exact ⟨_, (EReal.coe_toReal ht.ne hbt.ne').symm⟩

theorem tops_is : Is (val_main_v12 (F := Ideal) x0 x1) (tops x0 x1) := by
  intro i
  obtain ⟨t, ht⟩ := top_real x0 x1 X h0 h1 i
  have e : at2 (i 0).val (i 1).val = i := by
    funext a
    match a with
    | ⟨0, _⟩ => exact Fin.ext (Nat.mod_eq_of_lt (i 0).isLt)
    | ⟨1, _⟩ => exact Fin.ext (Nat.mod_eq_of_lt (i 1).isLt)
  show val_main_v12 (F := Ideal) x0 x1 i = ((val_main_v12 (F := Ideal) x0 x1 (at2 (i 0).val (i 1).val)).toReal : EReal)
  rw [e, ht, EReal.toReal_coe]

variable (ht : Is (val_main_v12 (F := Ideal) x0 x1) X.top)
include ht

theorem weight_at : Is3 (val_main_v32 (F := Ideal) x0 x1) X.weight := by
  intro i
  rw [val_main_v32_apply, val_main_v31_apply, masked_at x0 x1 X h0 h1, val_main_v30_apply, val_main_v29_apply, val_main_v19_apply, ht]
  have e : val_main_v18 (F := Ideal) (idx_main_v29 (idx_main_v30 i)) = (⊥ : EReal) := by rw [val_main_v18_apply]; exact neg_inf
  rw [e]
  show Ideal.exp ((if _ then _ else _) - max (⊥ : EReal) ((X.top (i 0).val (i 1).val : ℝ) : EReal)) = _
  rw [max_eq_right bot_le]
  unfold Problem.weight
  by_cases hs : Sees (i 1).val (i 2).val
  · rw [if_pos hs, if_pos hs, ← EReal.coe_sub]; rfl
  · rw [if_neg hs, if_neg hs, EReal.bot_sub]; rfl

theorem total_at : Is (val_main_v33 (F := Ideal) x0 x1) X.total := by
  intro i
  rw [val_main_v33_apply]
  refine (congrArg₂ (· + ·) Ideal.ofBits_zero_f32 (Finset.sum_congr rfl fun k _ => weight_at x0 x1 X h0 h1 ht _)).trans ?_
  refine (zero_add _).trans ?_
  exact sum_coe (n := 4096) (fun k => X.weight (i 0).val (i 1).val k)

theorem total_col : Is3 (val_main_v34 (F := Ideal) x0 x1) fun h r _ => X.total h r := by
  intro i
  rw [val_main_v34_apply, total_at x0 x1 X h0 h1 ht]

theorem prob_at : Is3 (val_main_v36 (F := Ideal) x0 x1) X.prob := by
  intro i
  rw [val_main_v36_apply, val_main_v35_apply, weight_at x0 x1 X h0 h1 ht, total_col x0 x1 X h0 h1 ht]
  exact div_coe _ _ (X.total_pos _ _ (i 1).isLt).ne'

/-- The reciprocal of the squared sum. -/
theorem recip_at : Is3 (val_main_v39 (F := Ideal) x0 x1) fun h r _ => 1 / (X.total h r * X.total h r) := by
  intro i
  have hp := X.total_pos (i 0).val (i 1).val (i 1).isLt
  rw [val_main_v39_apply, val_main_v37_apply, val_main_v38_apply, total_col x0 x1 X h0 h1 ht]
  have e1 : val_main_cst_10 (F := Ideal) (idx_main_v38 i) = ((1 : ℝ) : EReal) := Ideal.ofBits_one_f32
  rw [e1]
  show Ideal.div _ (_ * _) = _
  rw [← EReal.coe_mul]
  exact div_coe _ _ (mul_pos hp hp).ne'

variable (h2 : Is3 x2 X.v)
include h2

theorem out_at : Is3 (val_main_v41 (F := Ideal) x0 x1 x2) fun r h d => X.out h r d := by
  intro i
  rw [val_main_v41_apply, val_main_v40_apply]
  exact (Finset.sum_congr rfl fun k _ => congrArg₂ (· * ·) (h2 _) (prob_at x0 x1 X h0 h1 ht _)).trans
    (sum_mul_coe (n := 4096) (fun k => X.v k (i 1).val (i 2).val) (fun k => X.prob (i 1).val (i 0).val k))

variable (h3 : Is x3 X.g)
include h3

theorem dv_at : Is3 (val_main_v47 (F := Ideal) x0 x1 x3) fun k h d => X.dv h k d := by
  intro i
  rw [val_main_v47_apply, val_main_v46_apply]
  exact (Finset.sum_congr rfl fun k _ => congrArg₂ (· * ·) (cot_at x3 X h3 _) (prob_at x0 x1 X h0 h1 ht _)).trans
    (sum_mul_coe (n := 4096) (fun r => X.g r (128 * (i 1).val + (i 2).val)) (fun r => X.prob (i 1).val r (i 0).val))

/-! ## The gradient of the scores -/

theorem spread_at : Is3 (val_main_v50 (F := Ideal) x0 x1 x2 x3) fun h r k =>
    X.dprob h r k * (1 / (X.total h r * X.total h r)) * X.weight h r k := by
  intro i
  rw [val_main_v50_apply, val_main_v49_apply, val_main_v48_apply, dprob_at x2 x3 X h2 h3, recip_at x0 x1 X h0 h1 ht,
    weight_at x0 x1 X h0 h1 ht]
  exact ((EReal.coe_mul _ _).trans (congrArg (· * _) (EReal.coe_mul _ _))).symm

theorem spread_sum (i : S8x4096.Idx) : val_main_v51 (F := Ideal) x0 x1 x2 x3 i
    = ((spread X (i 0).val (i 1).val : ℝ) : EReal) := by
  rw [val_main_v51_apply]
  refine (congrArg₂ (· + ·) Ideal.ofBits_zero_f32 (Finset.sum_congr rfl fun k _ => spread_at x0 x1 x2 x3 X h0 h1 ht h2 h3 _)).trans ?_
  refine (zero_add _).trans ?_
  exact sum_coe (n := 4096) (fun k => X.dprob (i 0).val (i 1).val k * (1 / (X.total (i 0).val (i 1).val * X.total (i 0).val (i 1).val))
    * X.weight (i 0).val (i 1).val k)

theorem row_at (i : S8x4096x1.Idx) : val_main_v53 (F := Ideal) x0 x1 x2 x3 i
    = ((-spread X (i 0).val (i 1).val : ℝ) : EReal) := by
  rw [val_main_v53_apply, val_main_v52_apply, spread_sum x0 x1 x2 x3 X h0 h1 ht h2 h3]
  have b1 : (i 1).val < 4096 := (i 1).isLt
  have b2 : (i 2).val < 1 := (i 2).isLt
  have e0 : (idx_main_v52 i 0).val = (i 0).val := by
    show (((i 0).val * 4096 + (i 1).val) * 1 + (i 2).val) / 4096 = _
    omega
  have e1 : (idx_main_v52 i 1).val = (i 1).val := by
    show (((i 0).val * 4096 + (i 1).val) * 1 + (i 2).val) % 4096 = _
    omega
  rw [e0, e1]
  exact (EReal.coe_neg _).symm

theorem rows_at (i : S8x4096x4096.Idx) : val_main_v57 (F := Ideal) x0 x1 x2 x3 i
    = ((-spread X (i 0).val (i 1).val : ℝ) : EReal) := by
  rw [val_main_v57_apply, val_main_v56_apply, Fintype.sum_unique]
  refine (congrArg₂ (· + ·) Ideal.ofBits_zero_f32 (row_at x0 x1 x2 x3 X h0 h1 ht h2 h3 _)).trans ?_
  exact zero_add _

theorem chain_at : Is3 (val_main_v60 (F := Ideal) x0 x1 x2 x3) X.chain := by
  intro i
  have hp := X.total_pos (i 0).val (i 1).val (i 1).isLt
  rw [val_main_v60_apply, mask_at]
  unfold Scalar.select Problem.chain
  by_cases hs : Sees (i 1).val (i 2).val
  · rw [if_pos hs, if_pos hs]
    refine (if_pos rfl).trans ?_
    rw [val_main_v59_apply, val_main_v58_apply, val_main_v55_apply, val_main_v54_apply, rows_at x0 x1 x2 x3 X h0 h1 ht h2 h3,
      dprob_at x2 x3 X h2 h3, total_col x0 x1 X h0 h1 ht, weight_at x0 x1 X h0 h1 ht]
    refine (congrArg₂ (fun a b : EReal => (a + b) * _) (div_coe _ _ hp.ne') rfl).trans ?_
    exact ((EReal.coe_mul _ _).trans (congrArg (· * _) (EReal.coe_add _ _))).symm
  · rw [if_neg hs, if_neg hs]
    refine (if_neg (by decide)).trans ?_
    exact Ideal.ofBits_zero_f32

theorem dscore_at : Is3 (val_main_v62 (F := Ideal) x0 x1 x2 x3) fun h r k => X.dscore h r k * scale := by
  intro i
  rw [val_main_v62_apply, chain_at x0 x1 x2 x3 X h0 h1 ht h2 h3, X.chain_eq _ _ _ (i 1).isLt, val_main_v61_apply]
  exact (congrArg _ scale_eq).trans (EReal.coe_mul _ _).symm

theorem dk_at : Is3 (val_main_v64 (F := Ideal) x0 x1 x2 x3) fun k h l => X.dk h k l := by
  intro i
  rw [val_main_v64_apply, val_main_v63_apply]
  exact (Finset.sum_congr rfl fun r _ => congrArg₂ (· * ·) (dscore_at x0 x1 x2 x3 X h0 h1 ht h2 h3 _) (h0 _)).trans
    (sum_mul_coe (n := 4096) (fun r => X.dscore (i 1).val r (i 0).val * scale) (fun r => X.q r (i 1).val (i 2).val))

theorem dq_at : Is3 (val_main_v66 (F := Ideal) x0 x1 x2 x3) fun r h l => X.dq h r l := by
  intro i
  rw [val_main_v66_apply, val_main_v65_apply]
  exact (Finset.sum_congr rfl fun r _ => congrArg₂ (· * ·) (dscore_at x0 x1 x2 x3 X h0 h1 ht h2 h3 _) (h1 _)).trans
    (sum_mul_coe (n := 4096) (fun k => X.dscore (i 1).val (i 0).val k * scale) (fun k => X.k k (i 1).val (i 2).val))

/-! ## The results -/

theorem dq_result : Is (val_main_v69 (F := Ideal) x0 x1 x2 x3) fun r c => if c % 256 < 192 then X.dq (c / 256) r (c % 256) else 0 :=
  flat256 _ _ (pad_lanes (val_main_v66 (F := Ideal) x0 x1 x2 x3) _ (dq_at x0 x1 x2 x3 X h0 h1 ht h2 h3) (val_main_call2_v0 (F := Ideal))
    (fun _ => sitofp_zero (φ := .f32)) pads_S4096x8x192_S4096x8x256_000_000_0640 h_S_) _

theorem dk_result : Is (val_main_v72 (F := Ideal) x0 x1 x2 x3) fun r c => if c % 256 < 192 then X.dk (c / 256) r (c % 256) else 0 :=
  flat256 _ _ (pad_lanes (val_main_v64 (F := Ideal) x0 x1 x2 x3) _ (dk_at x0 x1 x2 x3 X h0 h1 ht h2 h3) (val_main_call3_v0 (F := Ideal))
    (fun _ => sitofp_zero (φ := .f32)) pads_S4096x8x192_S4096x8x256_000_000_0640 h_S_) _

theorem dv_result : Is (val_main_v74 (F := Ideal) x0 x1 x3) fun r c => X.dv (c / 128) r (c % 128) :=
  flat128 _ _ (dv_at x0 x1 x2 x3 X h0 h1 ht h2 h3) _

end

end Cert.ReferenceIdeal.Read

end
-- ==== Proof.KernelIdeal.Host.lean ====
/- The arrays the launch reads, as the host prepares them: the scaled and padded queries, the padded keys, the values,
   the cotangent, and the two row statistics, which are stages of the reference. -/
module

public import proofs.«01_k».proof.Proof.KernelIdeal.Meets
public import proofs.«01_k».proof.Proof.Plain
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.Sem
open Cert.Reals
open Cert.Attention (scale scale_eq Problem Sees)
open Cert.ReferenceIdeal.Read (val_main_v2 val_main_v11_0 val_main_v12 val_main_v19 val_main_v29 val_main_v30 val_main_v31 val_main_v32 val_main_v34 val_main_v41 val_main_v18_apply val_main_v19_apply)

section
variable (x0 x1 : FVec Ideal S4096x8x192 .f32) (x2 : FVec Ideal S4096x8x128 .f32)
  (x3 : FVec Ideal S4096x1024 .f32) (S : FVec Ideal S8x4096x4096 .f32) (T : FVec Ideal S8x4096 .f32)
  (E : FVec Ideal S8x4096x4096 .f32) (Z : FVec Ideal S8x4096x1 .f32)

/-- The logarithm of two, as a constant of the host. -/
def hostLog2 : FVec Ideal S_ .f32 := Host.log (constant S_ .f32 0x40000000#32)

/-- The scores. -/
def hostScore : FVec Ideal S8x4096x4096 .f32 :=
  mulf (Host.dotGeneral dot_S4096x8x192_S4096x8x192_S8x4096x4096_2_2_0_0_1_1 none x0 x1)
    (broadcastInDim S8x4096x4096 ![] bcast_S_S8x4096x4096 (constant (F := Ideal) S_ .f32 0x3D93CD3A#32))

/-- The chunk of every row. -/
def hostChunk : IVec S4096 32 :=
  Host.divsi (iotaInDim S4096 32 0) (broadcastInDim S4096 ![] bcast_S_S4096 (constantI S_ 32 64#32))

/-- The mask. -/
def hostMask : IVec S1x4096x4096 1 :=
  cmpi .sle (broadcastInDim S1x4096x4096 ![0, 1, 2] bcast_S1x1x4096_S1x4096x4096_0_1_2 (broadcastInDim S1x1x4096 ![2] bcast_S4096_S1x1x4096_2 hostChunk))
    (broadcastInDim S1x4096x4096 ![0, 1, 2] bcast_S1x4096x1_S1x4096x4096_0_1_2 (broadcastInDim S1x4096x1 ![1] bcast_S4096_S1x4096x1_1 hostChunk))

/-- The masked scores. -/
def hostMasked : FVec Ideal S8x4096x4096 .f32 :=
  select (broadcastInDim S8x4096x4096 ![0, 1, 2] bcast_S1x4096x4096_S8x4096x4096_0_1_2 hostMask) (hostScore x0 x1)
    (broadcastInDim S8x4096x4096 ![] bcast_S_S8x4096x4096 (constant (F := Ideal) S_ .f32 0xFF800000#32))

/-- The rows' maxima. -/
def hostTop : FVec Ideal S8x4096 .f32 :=
  Host.reduce FloatOps.maximumf S (constant (F := Ideal) S_ .f32 0xFF800000#32) reducesTo_S8x4096x4096_S8x4096_d2 h_S_

theorem hostScore_eq : hostScore x0 x1 = val_main_v2 (F := Ideal) x0 x1 := rfl

theorem hostMasked_eq : hostMasked x0 x1 = val_main_v11_0 (F := Ideal) x0 x1 := rfl

theorem hostTop_eq : hostTop (hostMasked x0 x1) = val_main_v12 (F := Ideal) x0 x1 := rfl

/-- The weights of the keys, from the masked scores and the rows' maxima. -/
def hostExp : FVec Ideal S8x4096x4096 .f32 :=
  Host.exp (subf S
    (broadcastInDim S8x4096x4096 ![0, 1, 2] bcast_S8x4096x1_S8x4096x4096_0_1_2 (broadcastInDim S8x4096x1 ![0, 1] bcast_S8x4096_S8x4096x1_0_1 T)))

/-- The sums of the weights, one column wide. -/
def hostSum : FVec Ideal S8x4096x1 .f32 :=
  broadcastInDim S8x4096x1 ![0, 1] bcast_S8x4096_S8x4096x1_0_1
    (Host.reduceAdd E (constant S_ .f32 0x00000000#32) reducesTo_S8x4096x4096_S8x4096_d2 h_S_)

/-- The layer's output, from the weights and their sums. -/
def hostOut : FVec Ideal S4096x8x128 .f32 :=
  transpose S4096x8x128 [2, 0, 1] (Host.dotGeneral dot_S4096x8x128_S8x4096x4096_S8x128x4096_0_2_2_1_1_0 none x2
    (Host.divf E (broadcastInDim S8x4096x4096 ![0, 1, 2] bcast_S8x4096x1_S8x4096x4096_0_1_2 Z))) transposes_S8x128x4096_S4096x8x128_2_0_1

/-- The rows' log-sum-exp in powers of two. -/
def hostLse : FVec Ideal S8x4096x1 .f32 :=
  Host.divf (addf (broadcastInDim S8x4096x1 ![0, 1] bcast_S8x4096_S8x4096x1_0_1 T) (Host.log Z))
    (broadcastInDim S8x4096x1 ![] bcast_S_S8x4096x1 hostLog2)

/-- The rows' output against the cotangent. -/
def hostDelta (O : FVec Ideal S4096x8x128 .f32) : FVec Ideal S4096x8 .f32 :=
  Host.reduceAdd (mulf O (shapeCast S4096x8x128 x3 shapeCasts_S4096x1024_S4096x8x128)) (constant S_ .f32 0x00000000#32)
    reducesTo_S4096x8x128_S4096x8_d2 h_S_

/-- The padded queries. -/
def hostQ : FVec Ideal S4096x8x256 .f32 :=
  pad S4096x8x256 ![0, 0, 0] ![0, 0, 64] ![0, 0, 0]
    (mulf x0 (broadcastInDim S4096x8x192 ![] bcast_S_S4096x8x192 (Host.divf (constant S_ .f32 0x3D93CD3A#32) hostLog2)))
    (sitofp (F := Ideal) .f32 (constantI S_ 32 0#32)) pads_S4096x8x192_S4096x8x256_000_000_0640 h_S_

end

variable (m : (ℓ : Loc nD τ sig) → Buf (Elt Ideal) ℓ) (c : Dev nD)

theorem V_q : V m c main_v7 = shapeCast S4096x2048 (hostQ (m ((c : Thread nD τ).loc main_arg0))) shapeCasts_S4096x8x256_S4096x2048 := by
  entry_read
  rfl

theorem V_k : V m c main_v10 = shapeCast S4096x2048 (pad (α := Ideal .f32) S4096x8x256 ![0, 0, 0] ![0, 0, 64] ![0, 0, 0]
    (m ((c : Thread nD τ).loc main_arg1)) (sitofp (F := Ideal) .f32 (constantI S_ 32 0#32)) pads_S4096x8x192_S4096x8x256_000_000_0640 h_S_)
    shapeCasts_S4096x8x256_S4096x2048 := by
  entry_read
  rfl

theorem V_v : V m c main_v12 = shapeCast S4096x1024 (m ((c : Thread nD τ).loc main_arg2)) shapeCasts_S4096x8x128_S4096x1024 := by
  entry_read
  rfl

theorem V_g : V m c main_v51 = m ((c : Thread nD τ).loc main_arg3) := by
  entry_read
  rfl

/-! ## The row statistics

The host's last line of operations starts from the masked scores, which the lines before leave. -/

/-- The contents before the host's last line of operations. -/
def before : Valuation τ sig (Elt Ideal) :=
  StableHlo.after (List.flatten [hostOps0, hostOps0_1, hostOps0_2, hostOps0_3, hostOps0_4, hostOps0_5]) (fun b => m (c, b))

theorem after_two {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

theorem V_before (b : Ref sig .tc) : V m c b = StableHlo.after (hostOps0_6 (F := Ideal)) (before m c) b := by
  unfold before
  rw [← after_two]
  rfl

theorem before_masked : before m c main_v24 = hostMasked (m ((c : Thread nD τ).loc main_arg0)) (m ((c : Thread nD τ).loc main_arg1)) := by
  unfold before
  entry_read
  rfl

theorem before_arg2 : before m c main_arg2 = m ((c : Thread nD τ).loc main_arg2) := by
  unfold before
  entry_read
  rfl

theorem before_arg3 : before m c main_arg3 = m ((c : Thread nD τ).loc main_arg3) := by
  unfold before
  entry_read
  rfl

section
variable (σ : Valuation τ sig (Elt Ideal))

theorem last_lse : StableHlo.after (hostOps0_6 (F := Ideal)) σ main_v48
    = shapeCast S4096x1024 (broadcastInDim S4096x8x128 ![0, 1, 2] bcast_S4096x8x1_S4096x8x128_0_1_2
    (transpose S4096x8x1 [1, 0, 2] (hostLse (hostTop (σ main_v24)) (hostSum (hostExp (σ main_v24) (hostTop (σ main_v24)))))
      transposes_S8x4096x1_S4096x8x1_1_0_2)) shapeCasts_S4096x8x128_S4096x1024 := by
  entry_read
  rfl

theorem last_delta : StableHlo.after (hostOps0_6 (F := Ideal)) σ main_v50
    = shapeCast S4096x1024 (broadcastInDim S4096x8x128 ![0, 1, 2] bcast_S4096x8x1_S4096x8x128_0_1_2
    (broadcastInDim S4096x8x1 ![0, 1] bcast_S4096x8_S4096x8x1_0_1 (hostDelta (σ main_arg3)
      (hostOut (σ main_arg2) (hostExp (σ main_v24) (hostTop (σ main_v24))) (hostSum (hostExp (σ main_v24) (hostTop (σ main_v24))))))))
      shapeCasts_S4096x8x128_S4096x1024 := by
  entry_read
  rfl

end

/-! ## Read over the real numbers -/

theorem log2_at (i : S_.Idx) : hostLog2 i = ((Real.log 2 : ℝ) : EReal) := by
  have h2 : Ideal.ofBits .f32 0x40000000#32 = ((2 : ℝ) : EReal) := by
    simp [Ideal.ofBits, Ideal.ieee, -EReal.coe_mul]; norm_num
  show Ideal.log (Ideal.ofBits .f32 0x40000000#32) = _
  rw [h2, log_coe 2 (by norm_num)]

section
variable (x0 x1 : S4096x8x192.Idx → EReal) (x2 : S4096x8x128.Idx → EReal) (x3 : S4096x1024.Idx → EReal) (X : Problem)

/-- The largest of minus infinity and a row's maximum is the maximum. -/
theorem v19_eq : val_main_v19 (F := Ideal) x0 x1 = val_main_v12 (F := Ideal) x0 x1 := by
  funext i
  rw [val_main_v19_apply, val_main_v18_apply]
  generalize val_main_v12 (F := Ideal) x0 x1 i = t
  show max (FloatOps.ofBits (F := Ideal) .f32 0xFF800000#32 : EReal) t = t
  rw [Cert.ReferenceIdeal.Read.neg_inf]
  exact max_eq_right bot_le

theorem exp_read : hostExp (val_main_v11_0 (F := Ideal) x0 x1) (val_main_v19 (F := Ideal) x0 x1) = val_main_v32 (F := Ideal) x0 x1 := by
  unfold val_main_v32 val_main_v31 val_main_v30 val_main_v29 hostExp
  generalize val_main_v19 (F := Ideal) x0 x1 = T
  generalize val_main_v11_0 (F := Ideal) x0 x1 = S
  rfl

theorem exp_eq : hostExp (hostMasked x0 x1) (hostTop (hostMasked x0 x1)) = val_main_v32 (F := Ideal) x0 x1 := by
  rw [hostTop_eq, hostMasked_eq, ← v19_eq, exp_read]

theorem sum_eq : hostSum (val_main_v32 (F := Ideal) x0 x1) = val_main_v34 (F := Ideal) x0 x1 := rfl

theorem out_eq : hostOut x2 (val_main_v32 (F := Ideal) x0 x1) (val_main_v34 (F := Ideal) x0 x1) = val_main_v41 (F := Ideal) x0 x1 x2 := rfl

theorem hostQ_is (h0 : Is3 x0 X.q) : Is3 (hostQ x0) fun r w l => if l < 192 then X.q r w l * (scale / Real.log 2) else 0 := by
  refine pad_lanes _ (fun r w l => X.q r w l * (scale / Real.log 2)) ?_ _ (fun _ => sitofp_zero (φ := .f32)) _ _
  intro i
  refine (congrArg₂ (fun a b : EReal => a * b) (h0 i) ((congrArg₂ Ideal.div scale_eq (log2_at _)).trans (div_coe _ _ log2_ne))).trans ?_
  exact (EReal.coe_mul _ _).symm

theorem hostLse_is (T : S8x4096.Idx → EReal) (Z : S8x4096x1.Idx → EReal) (hT : Is T X.top) (hZ : Is3 Z fun h r _ => X.total h r) :
    Is3 (hostLse T Z : S8x4096x1.Idx → EReal) fun h r _ => (X.top h r + Real.log (X.total h r)) / Real.log 2 := by
  intro i
  have e1 : broadcastInDim S8x4096x1 ![0, 1] bcast_S8x4096_S8x4096x1_0_1 T i = ((X.top (i 0).val (i 1).val : ℝ) : EReal) := by
    rw [broadcastInDim_apply _ bcast_S8x4096_S8x4096x1_0_1 T i (Cert.ReferenceIdeal.Read.idx_main_v34 i) (fun a => match a with
      | ⟨0, _⟩ => by show (i 0).val = if (8 : Nat) = 1 then 0 else (i 0).val; rw [if_neg (by decide)]
      | ⟨1, _⟩ => by show (i 1).val = if (4096 : Nat) = 1 then 0 else (i 1).val; rw [if_neg (by decide)])]
    exact hT _
  have e2 : Ideal.log (Z i) = ((Real.log (X.total (i 0).val (i 1).val) : ℝ) : EReal) := by
    rw [hZ i, log_coe _ (X.total_pos _ _ (i 1).isLt)]
  have e3 : broadcastInDim S8x4096x1 ![] bcast_S_S8x4096x1 hostLog2 i = ((Real.log 2 : ℝ) : EReal) := log2_at _
  show Ideal.div (broadcastInDim S8x4096x1 ![0, 1] bcast_S8x4096_S8x4096x1_0_1 T i + Ideal.log (Z i))
    (broadcastInDim S8x4096x1 ![] bcast_S_S8x4096x1 hostLog2 i) = _
  rw [e1, e2, e3, ← EReal.coe_add]
  exact div_coe _ _ log2_ne

variable (h0 : Is3 x0 X.q) (h1 : Is3 x1 X.k) (ht : Is (val_main_v12 (F := Ideal) x0 x1) X.top)
include h0 h1 ht

variable (h2 : Is3 x2 X.v) (h3 : Is x3 X.g)
include h2 h3

theorem hostDelta_is : Is (hostDelta x3 (val_main_v41 (F := Ideal) x0 x1 x2)) fun r h => X.delta h r := by
  intro i
  have ho := Cert.ReferenceIdeal.Read.out_at x0 x1 x2 X h0 h1 ht h2
  have hg := heads128 x3 X.g h3 shapeCasts_S4096x1024_S4096x8x128
  unfold hostDelta
  generalize val_main_v41 (F := Ideal) x0 x1 x2 = o at ho
  generalize shapeCast S4096x8x128 x3 shapeCasts_S4096x1024_S4096x8x128 = g at hg
  have hm : Is3 (mulf (F := Ideal) (φ := .f32) o g : S4096x8x128.Idx → EReal) fun r h d => X.out h r d * X.g r (128 * h + d) := by
    intro j
    show o j * g j = _
    rw [ho j, hg j, ← EReal.coe_mul]
  generalize mulf (F := Ideal) (φ := .f32) o g = y at hm
  simp only [Host.reduceAdd, Ideal.hostReduceAdd_def]
  rw [Ideal.hostReduceAdd_single reducesTo_S4096x8x128_S4096x8_d2 (by decide)]
  refine (congrArg₂ (· + ·) Ideal.ofBits_zero_f32 (Finset.sum_congr rfl fun k _ => hm _)).trans ?_
  refine (zero_add _).trans ?_
  exact sum_coe (n := 128) (fun d => X.out (i 1).val (i 0).val d * X.g (i 0).val (128 * (i 1).val + d))

end

/-- A column per head, spread over the head's lanes. -/
theorem spread_lanes (y : S4096x8x1.Idx → EReal) (A : ℕ → ℕ → ℝ) (hy : Is3 y fun r h _ => A r h) :
    Is (shapeCast S4096x1024 (broadcastInDim S4096x8x128 ![0, 1, 2] bcast_S4096x8x1_S4096x8x128_0_1_2 y) shapeCasts_S4096x8x128_S4096x1024)
      fun r c => A r (c / 128) := by
  refine flat128 _ (fun r h _ => A r h) ?_ _
  intro i
  rw [broadcastInDim_apply _ bcast_S4096x8x1_S4096x8x128_0_1_2 y i (fun a => match a with
    | ⟨0, _⟩ => (⟨(i 0).val, (i 0).isLt⟩ : Fin 4096)
    | ⟨1, _⟩ => (⟨(i 1).val, (i 1).isLt⟩ : Fin 8)
    | ⟨2, _⟩ => (⟨0, Nat.one_pos⟩ : Fin 1)) (fun a => match a with
    | ⟨0, _⟩ => by show (i 0).val = if (4096 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])]
  exact hy _

/-- The launch's arrays are those of the attention problem its arguments pose. -/
theorem arrays_are (X : Problem) (h0 : Is3 (m ((c : Thread nD τ).loc main_arg0) : S4096x8x192.Idx → EReal) X.q)
    (h1 : Is3 (m ((c : Thread nD τ).loc main_arg1) : S4096x8x192.Idx → EReal) X.k)
    (h2 : Is3 (m ((c : Thread nD τ).loc main_arg2) : S4096x8x128.Idx → EReal) X.v)
    (h3 : Is (m ((c : Thread nD τ).loc main_arg3) : S4096x1024.Idx → EReal) X.g)
    (ht : Is (val_main_v12 (F := Ideal) (m ((c : Thread nD τ).loc main_arg0)) (m ((c : Thread nD τ).loc main_arg1))) X.top) :
    ArraysAre m c (arrays X) where
  q := by
    rw [V_q]
    exact flat256 _ _ (hostQ_is _ X h0) _
  k := by
    rw [V_k]
    exact flat256 _ _ (pad_lanes _ _ h1 _ (fun _ => sitofp_zero (φ := .f32)) _ _) _
  v := by
    rw [V_v]
    exact flat128 _ _ h2 _
  g := by
    rw [V_g]
    exact h3
  lse := by
    rw [V_before, last_lse, before_masked, exp_eq, sum_eq, hostTop_eq]
    refine spread_lanes _ (fun r h => (X.top h r + Real.log (X.total h r)) / Real.log 2) ?_
    intro i
    have hl := hostLse_is X _ _ ht (Cert.ReferenceIdeal.Read.total_col _ _ X h0 h1 ht)
    generalize hostLse _ _ = y at hl ⊢
    rw [transpose_apply [1, 0, 2] y transposes_S8x4096x1_S4096x8x1_1_0_2 i (fun a => match a with
      | ⟨0, _⟩ => (⟨(i 1).val, (i 1).isLt⟩ : Fin 8)
      | ⟨1, _⟩ => (⟨(i 0).val, (i 0).isLt⟩ : Fin 4096)
      | ⟨2, _⟩ => (⟨(i 2).val, (i 2).isLt⟩ : Fin 1)) (fun b => match b with
      | ⟨0, _⟩ => rfl
      | ⟨1, _⟩ => rfl
      | ⟨2, _⟩ => rfl)]
    exact hl _
  delta := by
    rw [V_before, last_delta, before_masked, exp_eq, sum_eq, before_arg2, before_arg3, out_eq]
    refine spread_lanes _ (fun r h => X.delta h r) ?_
    intro i
    have hl := hostDelta_is _ _ _ _ X h0 h1 ht h2 h3
    generalize hostDelta _ _ = y at hl ⊢
    rw [broadcastInDim_apply _ bcast_S4096x8_S4096x8x1_0_1 y i (fun a => match a with
      | ⟨0, _⟩ => (⟨(i 0).val, (i 0).isLt⟩ : Fin 4096)
      | ⟨1, _⟩ => (⟨(i 1).val, (i 1).isLt⟩ : Fin 8)) (fun a => match a with
      | ⟨0, _⟩ => by show (i 0).val = if (4096 : Nat) = 1 then 0 else (i 0).val; rw [if_neg (by decide)]
      | ⟨1, _⟩ => by show (i 1).val = if (8 : Nat) = 1 then 0 else (i 1).val; rw [if_neg (by decide)])]
    exact hl _

end Cert.KernelIdeal.Gen

end
-- ==== Proof.Finite.lean ====
/- The precondition over the extended reals: every entry of every argument is a real number. -/
module

public import proofs.«01_k».proof.Pre_finite
public import proofs.«01_k».proof.Proof.Cubes
public import Idealize.ShloMosaic.Lib.ReduceAll
public import Idealize.ShloMosaic.PureOps.Ideal

@[expose] public section

noncomputable section

namespace Cert.Pre_finite

open Idealize.ShloMosaic
open Cert.Reals

theorem facts : Facts where
  reducesTo_S4096x8x192_S_d0_1_2 := by decide
  h_S_ := by decide
  reducesTo_S4096x8x128_S_d0_1_2 := by decide
  reducesTo_S4096x1024_S_d0_1 := by decide

theorem low_word : (constant (F := Ideal) S_ .f32 0xFF800000#32 : S_.Idx → EReal) = fun _ => ⊥ := by
  funext i
  show Ideal.ofBits .f32 0xFF800000#32 = ⊥
  unfold Ideal.ofBits Ideal.ieee
  dsimp only
  rw [if_pos (by decide), if_pos (by decide), if_pos (by decide)]

theorem high_word : (constant (F := Ideal) S_ .f32 0x7F800000#32 : S_.Idx → EReal) = fun _ => ⊤ := by
  funext i
  show Ideal.ofBits .f32 0x7F800000#32 = ⊤
  unfold Ideal.ofBits Ideal.ieee
  dsimp only
  rw [if_pos (by decide), if_pos (by decide), if_neg (by decide)]

/-- An array whose largest magnitude is below infinity holds real numbers. -/
theorem real_of_top {s : Shape} {axes : List (Fin s.rank)} (x : s.Idx → EReal) (h : s.ReducesTo axes S_) (hu : 0 < S_.numel) (j : S_.Idx)
    (e : cmpf (F := Ideal) (φ := .f32) .olt (Host.reduce FloatOps.maximumf (Host.absf (F := Ideal) (φ := .f32) x) (constant (F := Ideal) S_ .f32 0xFF800000#32) h hu)
      (constant (F := Ideal) S_ .f32 0x7F800000#32) j = 1#1) (i : s.Idx) : ∃ r : ℝ, x i = (r : EReal) := by
  have e1 : Host.reduce (α := EReal) max (fun i => max (x i) (-x i)) (fun _ => ⊥ : S_.Idx → EReal) h hu j < ⊤ := by
    rw [high_word, low_word] at e
    have e2 : Ideal.cmp .olt (Host.reduce (α := EReal) max (fun i => max (x i) (-x i)) (fun _ => ⊥ : S_.Idx → EReal) h hu j) ⊤ = 1#1 := e
    generalize Host.reduce (α := EReal) max (fun i => max (x i) (-x i)) (fun _ => ⊥ : S_.Idx → EReal) h hu j = y at e2
    by_contra hy
    rw [show Ideal.cmp .olt y ⊤ = BitVec.ofBool (decide (y < ⊤)) from rfl, decide_eq_false hy] at e2
    exact absurd e2 (by decide)
  rw [Host.reduce_eq_fold, Finset.fold_max_lt] at e1
  have hi := e1.2 i (Finset.mem_filter.mpr ⟨Finset.mem_univ _, funext fun a => a.elim0⟩)
  obtain ⟨h1, h2⟩ := max_lt_iff.mp hi
  refine ⟨_, (EReal.coe_toReal h1.ne ?_).symm⟩
  intro hb
  rw [hb] at h2
  exact absurd h2 (by simp)

/-- The precondition makes every argument an array of real numbers. -/
theorem reals_of [Facts] (x0 x1 : S4096x8x192.Idx → EReal) (x2 : S4096x8x128.Idx → EReal) (x3 : S4096x1024.Idx → EReal)
    (e : fn (F := Ideal) x0 x1 x2 x3 = fun _ => 1#1) :
    (∀ i, ∃ r : ℝ, x0 i = r) ∧ (∀ i, ∃ r : ℝ, x1 i = r) ∧ (∀ i, ∃ r : ℝ, x2 i = r) ∧ ∀ i, ∃ r : ℝ, x3 i = r := by
  have e := congrFun e (Shape.Idx.first Facts.h_S_)
  unfold fn at e
  dsimp only at e
  obtain ⟨e, e3⟩ := IntOp.andi_eq_one.1 e
  obtain ⟨e, e2⟩ := IntOp.andi_eq_one.1 e
  obtain ⟨e0, e1⟩ := IntOp.andi_eq_one.1 e
  exact ⟨real_of_top x0 _ _ _ e0, real_of_top x1 _ _ _ e1, real_of_top x2 _ _ _ e2, real_of_top x3 _ _ _ e3⟩

/-- An array of real numbers, read by its coordinates. -/
theorem exists_is3 {n0 n1 n2 : ℕ} (a : (⟨3, ![n0, n1, n2]⟩ : Shape).Idx → EReal) (h : ∀ i, ∃ r : ℝ, a i = r) : ∃ A, Is3 a A := by
  classical
  refine ⟨fun x y z => if p : x < n0 ∧ y < n1 ∧ z < n2 then (a fun b => match b with
    | ⟨0, _⟩ => (⟨x, p.1⟩ : Fin n0) | ⟨1, _⟩ => (⟨y, p.2.1⟩ : Fin n1) | ⟨2, _⟩ => (⟨z, p.2.2⟩ : Fin n2)).toReal else 0, fun i => ?_⟩
  dsimp only
  rw [dif_pos ⟨(i 0).isLt, (i 1).isLt, (i 2).isLt⟩]
  have e : (fun b => match b with
    | ⟨0, _⟩ => (⟨(i 0).val, (i 0).isLt⟩ : Fin n0) | ⟨1, _⟩ => (⟨(i 1).val, (i 1).isLt⟩ : Fin n1) | ⟨2, _⟩ => (⟨(i 2).val, (i 2).isLt⟩ : Fin n2) : (⟨3, ![n0, n1, n2]⟩ : Shape).Idx) = i := by
    funext b
    match b with | ⟨0, _⟩ => rfl | ⟨1, _⟩ => rfl | ⟨2, _⟩ => rfl
  obtain ⟨r, hr⟩ := h i
  refine (?_ : a i = _).trans (congrArg (fun j => ((a j).toReal : EReal)) e).symm
  rw [hr, EReal.toReal_coe]

theorem exists_is {n0 n1 : ℕ} (a : (⟨2, ![n0, n1]⟩ : Shape).Idx → EReal) (h : ∀ i, ∃ r : ℝ, a i = r) : ∃ A, Is a A := by
  classical
  refine ⟨fun x y => if p : x < n0 ∧ y < n1 then (a fun b => match b with
    | ⟨0, _⟩ => (⟨x, p.1⟩ : Fin n0) | ⟨1, _⟩ => (⟨y, p.2⟩ : Fin n1)).toReal else 0, fun i => ?_⟩
  dsimp only
  rw [dif_pos ⟨(i 0).isLt, (i 1).isLt⟩]
  have e : (fun b => match b with
    | ⟨0, _⟩ => (⟨(i 0).val, (i 0).isLt⟩ : Fin n0) | ⟨1, _⟩ => (⟨(i 1).val, (i 1).isLt⟩ : Fin n1) : (⟨2, ![n0, n1]⟩ : Shape).Idx) = i := by
    funext b
    match b with | ⟨0, _⟩ => rfl | ⟨1, _⟩ => rfl
  obtain ⟨r, hr⟩ := h i
  refine (?_ : a i = _).trans (congrArg (fun j => ((a j).toReal : EReal)) e).symm
  rw [hr, EReal.toReal_coe]

end Cert.Pre_finite

end
-- ==== Proof.Agree.lean ====
/- The kernel's results are the reference's: both are the gradients of the attention problem the arguments pose. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Host
public import proofs.«01_k».proof.Proof.Finite

@[expose] public section

noncomputable section

namespace Cert.Proof

open Idealize.ShloMosaic Idealize.ShloMosaic.TcCoe Idealize.SL.Sem
open Cert.Reals
open Cert.Attention (Problem)

local instance : Cert.Pre_finite.Facts := Cert.Pre_finite.facts

/-- The attention problem the arguments pose, when they hold real numbers. -/
theorem problem_of (x0 x1 : Cert.ReferenceIdeal.S4096x8x192.Idx → EReal) (x2 : Cert.ReferenceIdeal.S4096x8x128.Idx → EReal)
    (x3 : Cert.ReferenceIdeal.S4096x1024.Idx → EReal)
    (e : Cert.Pre_finite.fn (F := Ideal) x0 x1 x2 x3 = fun _ => 1#1) :
    ∃ X : Problem, Is3 x0 X.q ∧ Is3 x1 X.k ∧ Is3 x2 X.v ∧ Is x3 X.g ∧ Is (Cert.ReferenceIdeal.Read.val_main_v12 (F := Ideal) x0 x1) X.top := by
  obtain ⟨r0, r1, r2, r3⟩ := Cert.Pre_finite.reals_of x0 x1 x2 x3 e
  obtain ⟨q, h0⟩ := Cert.Pre_finite.exists_is3 x0 r0
  obtain ⟨k, h1⟩ := Cert.Pre_finite.exists_is3 x1 r1
  obtain ⟨v, h2⟩ := Cert.Pre_finite.exists_is3 x2 r2
  obtain ⟨g, h3⟩ := Cert.Pre_finite.exists_is x3 r3
  have ht := Cert.ReferenceIdeal.Read.tops_is x0 x1 ⟨q, k, v, g, fun _ _ => 0⟩ h0 h1
  generalize Cert.ReferenceIdeal.Read.tops x0 x1 = T at ht
  exact ⟨⟨q, k, v, g, T⟩, h0, h1, h2, h3, ht⟩

section
variable (m : (ℓ : Loc Cert.KernelIdeal.nD Cert.KernelIdeal.τ Cert.KernelIdeal.sig) → Buf (Elt Ideal) ℓ) (c : Dev Cert.KernelIdeal.nD)

abbrev arg0 : Cert.ReferenceIdeal.S4096x8x192.Idx → EReal := m ((c.tc : Thread Cert.KernelIdeal.nD Cert.KernelIdeal.τ).loc Cert.KernelIdeal.main_arg0)
abbrev arg1 : Cert.ReferenceIdeal.S4096x8x192.Idx → EReal := m ((c.tc : Thread Cert.KernelIdeal.nD Cert.KernelIdeal.τ).loc Cert.KernelIdeal.main_arg1)
abbrev arg2 : Cert.ReferenceIdeal.S4096x8x128.Idx → EReal := m ((c.tc : Thread Cert.KernelIdeal.nD Cert.KernelIdeal.τ).loc Cert.KernelIdeal.main_arg2)
abbrev arg3 : Cert.ReferenceIdeal.S4096x1024.Idx → EReal := m ((c.tc : Thread Cert.KernelIdeal.nD Cert.KernelIdeal.τ).loc Cert.KernelIdeal.main_arg3)

variable (e : Cert.Pre_finite.fn (F := Ideal) (arg0 m c) (arg1 m c) (arg2 m c) (arg3 m c) = fun _ => 1#1)
include e

theorem dq_agree : ((Cert.KernelIdeal.Gen.dats m 0 c).arrAt 6 Cert.KernelIdeal.cfg0.N : Cert.ReferenceIdeal.S4096x2048.Idx → EReal)
    = Cert.ReferenceIdeal.Read.val_main_v69 (F := Ideal) (arg0 m c) (arg1 m c) (arg2 m c) (arg3 m c) := by
  obtain ⟨X, h0, h1, h2, h3, ht⟩ := problem_of _ _ _ _ e
  have ha := Cert.KernelIdeal.Gen.arrays_are m c X h0 h1 h2 h3 ht
  funext i
  have hk := Cert.KernelIdeal.Gen.final6_is m c _ ha i
  rw [Cert.KernelIdeal.Gen.dq_eq X _ _ (i 0).isLt] at hk
  exact hk.trans (Cert.ReferenceIdeal.Read.dq_result _ _ _ _ X h0 h1 ht h2 h3 i).symm

theorem dk_agree : ((Cert.KernelIdeal.Gen.dats m 0 c).arrAt 7 Cert.KernelIdeal.cfg0.N : Cert.ReferenceIdeal.S4096x2048.Idx → EReal)
    = Cert.ReferenceIdeal.Read.val_main_v72 (F := Ideal) (arg0 m c) (arg1 m c) (arg2 m c) (arg3 m c) := by
  obtain ⟨X, h0, h1, h2, h3, ht⟩ := problem_of _ _ _ _ e
  have ha := Cert.KernelIdeal.Gen.arrays_are m c X h0 h1 h2 h3 ht
  funext i
  have hk := Cert.KernelIdeal.Gen.final7_is m c _ ha i
  rw [Cert.KernelIdeal.Gen.dk_eq X] at hk
  exact hk.trans (Cert.ReferenceIdeal.Read.dk_result _ _ _ _ X h0 h1 ht h2 h3 i).symm

theorem dv_agree : ((Cert.KernelIdeal.Gen.dats m 0 c).arrAt 8 Cert.KernelIdeal.cfg0.N : Cert.ReferenceIdeal.S4096x1024.Idx → EReal)
    = Cert.ReferenceIdeal.Read.val_main_v74 (F := Ideal) (arg0 m c) (arg1 m c) (arg3 m c) := by
  obtain ⟨X, h0, h1, h2, h3, ht⟩ := problem_of _ _ _ _ e
  have ha := Cert.KernelIdeal.Gen.arrays_are m c X h0 h1 h2 h3 ht
  funext i
  have hk := Cert.KernelIdeal.Gen.final8_is m c _ ha i
  rw [Cert.KernelIdeal.Gen.dv_eq X] at hk
  exact hk.trans (Cert.ReferenceIdeal.Read.dv_result _ _ _ _ X h0 h1 ht h2 h3 i).symm

end

end Cert.Proof

end
-- ==== Proof.Kernel2Ideal.Final.lean ====
/- The call for the gradient before the squared ReLU leaves the reference's gradient in its output array. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

/-- The root of a number's square, where the number is not negative (infinity with the rest). -/
theorem sqrt_square (z : EReal) (hz : 0 ≤ z) : Ideal.sqrt (z * z) = z := by
  induction z with
  | bot => simp at hz
  | top => rfl
  | coe r =>
    have hr : 0 ≤ r := EReal.coe_nonneg.mp hz
    rw [← EReal.coe_mul]
    show (if r * r < 0 then (⊥ : EReal) else ((Real.sqrt (r * r) : ℝ) : EReal)) = r
    rw [if_neg (not_lt.mpr (mul_self_nonneg r)), Real.sqrt_mul_self hr]

/-- The saved square, which the host's lines compute of `z`. -/
theorem saved (c : Dev nD) (z : S4096x4096.Idx → EReal) (hz : z = m ((c : Thread nD τ).loc main_arg2)) (j : S4096x4096.Idx) :
    (V m c main_v3 : S4096x4096.Idx → EReal) j = max (z j) 0 * max (z j) 0 := by
  subst hz
  entry_read
  pointwise

/-- The reference at an index: where `z` is not positive both of its branches are zero. -/
theorem ref_at (x0 x1 : (⟨S4096x1024, .bf16⟩ : BufTy).Contents (Elt Ideal)) (x2 : (⟨S4096x4096, .f32⟩ : BufTy).Contents (Elt Ideal)) (i : S4096x4096.Idx) :
    val_main_v14 (F := Ideal) x0 x1 x2 i
      = (∑ k : Fin 1024, x0 (ix2 ⟨(i 0).val, (i 0).isLt⟩ k) * x1 (ix2 ⟨(i 1).val, (i 1).isLt⟩ k))
        * (Ideal.ofBits FTy.f32 0x40000000#32 * max (x2 i : EReal) 0) := by
  pointwise [val_main_v14, val_main_v13, val_main_v12, val_main_v11, val_main_v10, val_main_v9, val_main_v8, val_main_v7, val_main_v6, val_main_v5, val_main_v4, val_main_v3, val_main_v2, val_main_v1, val_main_v0,
    val_main_cst, val_main_cst_1, val_main_cst_2, val_main_call0_v0, val_main_call0_cst]
  split
  · rfl
  · rename_i h
    rw [max_eq_right (not_lt.mp h), mul_zero, mul_zero]

/-- The output array after the grid is the reference's. -/
theorem final (c : Dev nD) :
    (dats m 0 c).arrAt 3 cfg0.N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, ref_at]
  canon_tiles x h using cover0_3 ..
  all_goals
    pointwise [k0_pay1, k0_pay2, k0_pay3, k0_pay4, k0_pay5, k0_pay6, k0_pay7, k0_pay8, k0_pay9, k0_pay10, k0_pay11, k0_pay12]
    blk_simp [iblk]
    rw [saved m c _ rfl, sqrt_square _ (le_max_right _ _)]
    blk_point [iblk, V, index0 t, index1 t, index2 t, index3 t]

end Cert.Kernel2Ideal.Value

end
-- ==== Proof.Kernel2Ideal.Agree.lean ====
/- The call and its reference, from the same arguments, end with the same result. -/
module

public import proofs.«01_k».proof.Defs
public import proofs.«01_k».proof.Proof.Kernel2Ideal.Final
public import proofs.«01_k».proof.Proof.Gen.Reference2Ideal.Run

@[expose] public section

noncomputable section

namespace Cert.Kernel2Ideal.Value

open Idealize.ShloMosaic Idealize.ShloMosaic.TcCoe Idealize.SL.Sem

theorem reference_frame : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run m ρ)

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 3 Cert.Kernel2Ideal.cfg0.N, run_blocks m g, ?_⟩
  refine (θ_run Cert.Reference2Ideal.defs _ _).mono (fun r h c => ?_) (Cert.Reference2Ideal.Value.run m' g')
  obtain ⟨r0, r1, r2⟩ := hagree c
  refine ⟨(h c).1.trans ?_, (h c).2⟩
  rw [Cert.Reference2Ideal.Read.val_main_v14_eq, r0, r1, r2]
  exact (final m c).symm

end Cert.Kernel2Ideal.Value

end
-- ==== Proof.Kernel3Ideal.Final.lean ====
/- The call for the gradient of w2 leaves the reference's gradient in its output array. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0, 0, 0] := (by decide +kernel : ∀ t : Fin grid0.N, _)

/-- The reference at an index: chip `i 0`'s row `i 2`, column `i 3`. -/
theorem ref_at (x0 : (⟨S4096x4096, .bf16⟩ : BufTy).Contents (Elt Ideal)) (x1 : (⟨S4096x1024, .bf16⟩ : BufTy).Contents (Elt Ideal)) (i : S4x1x1024x1024.Idx) :
    val_main_v7 (F := Ideal) x0 x1 i = ∑ k : Fin 4096, x0 (ix2 k ⟨1024 * (i 0).val + (i 2).val, by
          have h0 : (i 0).val < 4 := (i 0).isLt
          have h2 : (i 2).val < 1024 := (i 2).isLt
          omega⟩) * x1 (ix2 k ⟨(i 3).val, (i 3).isLt⟩) := by
  pointwise [val_main_v7, val_main_v6, val_main_v5, val_main_v4, val_main_v3, val_main_v1]
  refine Finset.sum_congr rfl fun k _ => ?_
  rw [mul_comm]
  blk_point []

/-- The output array after the grid is the reference's. -/
theorem final (c : Dev nD) :
    (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2, k0_pay3, k0_pay4]
    blk_point [iblk, V, index0 t, index1 t, index2 t]

end Cert.Kernel3Ideal.Value

end
-- ==== Proof.Kernel3Ideal.Agree.lean ====
/- The call and its reference, from the same arguments, end with the same result. -/
module

public import proofs.«01_k».proof.Defs
public import proofs.«01_k».proof.Proof.Kernel3Ideal.Final
public import proofs.«01_k».proof.Proof.Gen.Reference3Ideal.Run

@[expose] public section

noncomputable section

namespace Cert.Kernel3Ideal.Value

open Idealize.ShloMosaic Idealize.ShloMosaic.TcCoe Idealize.SL.Sem

theorem reference_frame : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run m ρ)

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 2 Cert.Kernel3Ideal.cfg0.N, run_blocks m g, ?_⟩
  refine (θ_run Cert.Reference3Ideal.defs _ _).mono (fun r h c => ?_) (Cert.Reference3Ideal.Value.run m' g')
  obtain ⟨r0, r1⟩ := hagree c
  refine ⟨(h c).1.trans ?_, (h c).2⟩
  rw [Cert.Reference3Ideal.Read.val_main_v7_eq, r0, r1]
  exact (final m c).symm

end Cert.Kernel3Ideal.Value

end
-- ==== Proof.Kernel4Ideal.Final.lean ====
/- The call for the gradient of w1 leaves the reference's gradient in its output array. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val, 0, 0, 0] := (by decide +kernel : ∀ t : Fin grid0.N, _)

/-- The reference at an index: chip `i 0`'s row `i 2`, column `i 3`. -/
theorem ref_at (x0 : (⟨S4096x1024, .bf16⟩ : BufTy).Contents (Elt Ideal)) (x1 : (⟨S4096x4096, .bf16⟩ : BufTy).Contents (Elt Ideal)) (i : S4x1x1024x1024.Idx) :
    val_main_v9 (F := Ideal) x0 x1 i = ∑ k : Fin 4096, x0 (ix2 k ⟨(i 2).val, (i 2).isLt⟩) * x1 (ix2 k ⟨1024 * (i 0).val + (i 3).val, by
          have h0 : (i 0).val < 4 := (i 0).isLt
          have h3 : (i 3).val < 1024 := (i 3).isLt
          omega⟩) := by
  pointwise [val_main_v9, val_main_v8, val_main_v7, val_main_v6, val_main_v5, val_main_v4, val_main_v3, val_main_v1]
  refine Finset.sum_congr rfl fun k _ => ?_
  rw [mul_comm]
  blk_point []

/-- The output array after the grid is the reference's. -/
theorem final (c : Dev nD) :
    (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2, k0_pay3, k0_pay4]
    blk_point [iblk, V, index0 t, index1 t, index2 t]

end Cert.Kernel4Ideal.Value

end
-- ==== Proof.Kernel4Ideal.Agree.lean ====
/- The call and its reference, from the same arguments, end with the same result. -/
module

public import proofs.«01_k».proof.Defs
public import proofs.«01_k».proof.Proof.Kernel4Ideal.Final
public import proofs.«01_k».proof.Proof.Gen.Reference4Ideal.Run

@[expose] public section

noncomputable section

namespace Cert.Kernel4Ideal.Value

open Idealize.ShloMosaic Idealize.ShloMosaic.TcCoe Idealize.SL.Sem

theorem reference_frame : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run m ρ)

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 2 Cert.Kernel4Ideal.cfg0.N, run_blocks m g, ?_⟩
  refine (θ_run Cert.Reference4Ideal.defs _ _).mono (fun r h c => ?_) (Cert.Reference4Ideal.Value.run m' g')
  obtain ⟨r0, r1⟩ := hagree c
  refine ⟨(h c).1.trans ?_, (h c).2⟩
  rw [Cert.Reference4Ideal.Read.val_main_v9_eq, r0, r1]
  exact (final m c).symm

end Cert.Kernel4Ideal.Value

end
-- ==== Proof.Kernel5Ideal.Final.lean ====
/- The forward call of w1 leaves the reference's squared ReLU in its output array. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)

/-- The reference at an index: column `i 1` is chip `i 1 / 1024`'s column `i 1 % 1024`. -/
theorem ref_at (x0 : (⟨S4096x1024, .bf16⟩ : BufTy).Contents (Elt Ideal)) (x1 : (⟨S4x1024x1024, .bf16⟩ : BufTy).Contents (Elt Ideal)) (i : S4096x4096.Idx) :
    val_main_v7 (F := Ideal) x0 x1 i = (fun z : EReal => max z 0 * max z 0) (∑ k : Fin 1024, x0 (ix2 ⟨(i 0).val, (i 0).isLt⟩ k) * x1 (ix3 ⟨(i 1).val / 1024, by
          have h1 : (i 1).val < 4096 := (i 1).isLt
          omega⟩ k ⟨(i 1).val % 1024, by
          have h1 : (i 1).val < 4096 := (i 1).isLt
          omega⟩)) := by
  pointwise [val_main_v7, val_main_v6, val_main_v5, val_main_v4, val_main_v3, val_main_v2, val_main_v1, val_main_v0, val_main_call0_v0, val_main_call0_cst]

/-- The output array after the grid is the reference's. -/
theorem final (c : Dev nD) :
    (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2, k0_pay3, k0_pay4, k0_pay5, k0_pay6, k0_pay7, k0_pay8]
    blk_point [iblk, V, index0 t, index1 t, index2 t]

end Cert.Kernel5Ideal.Value

end
-- ==== Proof.Kernel5Ideal.Agree.lean ====
/- The call and its reference, from the same arguments, end with the same result. -/
module

public import proofs.«01_k».proof.Defs
public import proofs.«01_k».proof.Proof.Kernel5Ideal.Final
public import proofs.«01_k».proof.Proof.Gen.Reference5Ideal.Run

@[expose] public section

noncomputable section

namespace Cert.Kernel5Ideal.Value

open Idealize.ShloMosaic Idealize.ShloMosaic.TcCoe Idealize.SL.Sem

theorem reference_frame : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run m ρ)

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N, run_blocks m g, ?_⟩
  refine (θ_run Cert.Reference5Ideal.defs _ _).mono (fun r h c => ?_) (Cert.Reference5Ideal.Value.run m' g')
  obtain ⟨r0, r1⟩ := hagree c
  refine ⟨(h c).1.trans ?_, (h c).2⟩
  rw [Cert.Reference5Ideal.Read.val_main_v7_eq, r0, r1]
  exact (final m c).symm

end Cert.Kernel5Ideal.Value

end
-- ==== Proof.Kernel6Ideal.Final.lean ====
/- The call for the gradient of the retention's input weights leaves the reference's gradient in its output array. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Reference6Ideal.Read

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![t.val / 2, 0, 0, t.val % 2] := (by decide +kernel : ∀ t : Fin grid0.N, _)

/-- The reference at an index: chip `i 0`'s row `i 2`, column `i 3`. -/
theorem ref_at (x0 : (⟨S4096x1024, .bf16⟩ : BufTy).Contents (Elt Ideal)) (x1 : (⟨S4096x6144, .bf16⟩ : BufTy).Contents (Elt Ideal)) (i : S4x1x1024x1536.Idx) :
    val_main_v9 (F := Ideal) x0 x1 i = ∑ k : Fin 4096, x0 (ix2 k ⟨(i 2).val, (i 2).isLt⟩) * x1 (ix2 k ⟨1536 * (i 0).val + (i 3).val, by
          have h0 : (i 0).val < 4 := (i 0).isLt
          have h3 : (i 3).val < 1536 := (i 3).isLt
          omega⟩) := by
  pointwise [val_main_v9, val_main_v8, val_main_v7, val_main_v6, val_main_v5, val_main_v4, val_main_v3, val_main_v1]
  refine Finset.sum_congr rfl fun k _ => ?_
  rw [mul_comm]
  blk_point []

/-- The output array after the grid is the reference's. -/
theorem final (c : Dev nD) :
    (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2, k0_pay3, k0_pay4]
    blk_point [iblk, V, index0 t, index1 t, index2 t]

end Cert.Kernel6Ideal.Value

end
-- ==== Proof.Kernel6Ideal.Agree.lean ====
/- The call and its reference, from the same arguments, end with the same result. -/
module

public import proofs.«01_k».proof.Defs
public import proofs.«01_k».proof.Proof.Kernel6Ideal.Final
public import proofs.«01_k».proof.Proof.Gen.Reference6Ideal.Run

@[expose] public section

noncomputable section

namespace Cert.Kernel6Ideal.Value

open Idealize.ShloMosaic Idealize.ShloMosaic.TcCoe Idealize.SL.Sem

theorem reference_frame : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run m ρ)

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 2 Cert.Kernel6Ideal.cfg0.N, run_blocks m g, ?_⟩
  refine (θ_run Cert.Reference6Ideal.defs _ _).mono (fun r h c => ?_) (Cert.Reference6Ideal.Value.run m' g')
  obtain ⟨r0, r1⟩ := hagree c
  refine ⟨(h c).1.trans ?_, (h c).2⟩
  rw [Cert.Reference6Ideal.Read.val_main_v9_eq, r0, r1]
  exact (final m c).symm

end Cert.Kernel6Ideal.Value

end
-- ==== Proof.Kernel7Ideal.Final.lean ====
/- The retention's input projection leaves the reference's product in its output array. -/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ)

theorem index0 : ∀ t : Fin cfg0.N, win0_0.index t = ![t.val / 8, 0] := (by decide +kernel : ∀ t : Fin grid0.N, _)
theorem index1 : ∀ t : Fin cfg0.N, win0_1.index t = ![t.val % 8 / 2, 0, t.val % 2] := (by decide +kernel : ∀ t : Fin grid0.N, _)
theorem index2 : ∀ t : Fin cfg0.N, win0_2.index t = ![t.val / 8, t.val % 8] := (by decide +kernel : ∀ t : Fin grid0.N, _)

/-- The reference at an index: column `i 1` is chip `i 1 / 1536`'s column `i 1 % 1536`. -/
theorem ref_at (x0 : (⟨S4096x1024, .bf16⟩ : BufTy).Contents (Elt Ideal)) (x1 : (⟨S4x1024x1536, .bf16⟩ : BufTy).Contents (Elt Ideal)) (i : S4096x6144.Idx) :
    val_main_v5 (F := Ideal) x0 x1 i = ∑ k : Fin 1024, x0 (ix2 ⟨(i 0).val, (i 0).isLt⟩ k) * x1 (ix3 ⟨(i 1).val / 1536, by
          have h1 : (i 1).val < 6144 := (i 1).isLt
          omega⟩ k ⟨(i 1).val % 1536, by
          have h1 : (i 1).val < 6144 := (i 1).isLt
          omega⟩) := by
  pointwise [val_main_v5, val_main_v4, val_main_v3, val_main_v2, val_main_v1, val_main_v0]

/-- The output array after the grid is the reference's. -/
theorem final (c : Dev nD) :
    (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2, k0_pay3, k0_pay4, k0_pay5, k0_pay6, k0_pay7, k0_pay8]
    blk_point [iblk, V, index0 t, index1 t, index2 t]

end Cert.Kernel7Ideal.Value

end
-- ==== Proof.Kernel7Ideal.Agree.lean ====
/- The call and its reference, from the same arguments, end with the same result. -/
module

public import proofs.«01_k».proof.Defs
public import proofs.«01_k».proof.Proof.Kernel7Ideal.Final
public import proofs.«01_k».proof.Proof.Gen.Reference7Ideal.Run

@[expose] public section

noncomputable section

namespace Cert.Kernel7Ideal.Value

open Idealize.ShloMosaic Idealize.ShloMosaic.TcCoe Idealize.SL.Sem

theorem reference_frame : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run m ρ)

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 2 Cert.Kernel7Ideal.cfg0.N, run_blocks m g, ?_⟩
  refine (θ_run Cert.Reference7Ideal.defs _ _).mono (fun r h c => ?_) (Cert.Reference7Ideal.Value.run m' g')
  obtain ⟨r0, r1⟩ := hagree c
  refine ⟨(h c).1.trans ?_, (h c).2⟩
  rw [Cert.Reference7Ideal.Read.val_main_v5_eq, r0, r1]
  exact (final m c).symm

end Cert.Kernel7Ideal.Value

end
-- ==== Proof.Kernel8Ideal.Final.lean ====
/- The call for the gradient of the retention's output weights leaves the reference's gradient in its output array. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Reference8Ideal.Read

variable (m : (ℓ : Loc nD τ sig) → Buf (Elt Ideal) ℓ)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, 0, 0, t.val % 2] := (by decide +kernel : ∀ t : Fin grid0.N, _)

/-- The reference at an index: chip `i 0`'s row `i 2`, column `i 3`. -/
theorem ref_at (x0 : (⟨S4096x2048, .bf16⟩ : BufTy).Contents (Elt Ideal)) (x1 : (⟨S4096x1024, .bf16⟩ : BufTy).Contents (Elt Ideal)) (i : S4x1x512x1024.Idx) :
    val_main_v7 (F := Ideal) x0 x1 i = ∑ k : Fin 4096, x0 (ix2 k ⟨512 * (i 0).val + (i 2).val, by
          have h0 : (i 0).val < 4 := (i 0).isLt
          have h2 : (i 2).val < 512 := (i 2).isLt
          omega⟩) * x1 (ix2 k ⟨(i 3).val, (i 3).isLt⟩) := by
  pointwise [val_main_v7, val_main_v6, val_main_v5, val_main_v4, val_main_v3, val_main_v1]
  refine Finset.sum_congr rfl fun k _ => ?_
  rw [mul_comm]
  blk_point []

/-- The output array after the grid is the reference's. -/
theorem final (c : Dev nD) :
    (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2]
    blk_point [iblk, V, index0 t, index1 t, index2 t]

end Cert.Kernel8Ideal.Value

end
-- ==== Proof.Kernel8Ideal.Agree.lean ====
/- The call and its reference, from the same arguments, end with the same result. -/
module

public import proofs.«01_k».proof.Defs
public import proofs.«01_k».proof.Proof.Kernel8Ideal.Final
public import proofs.«01_k».proof.Proof.Gen.Reference8Ideal.Run

@[expose] public section

noncomputable section

namespace Cert.Kernel8Ideal.Value

open Idealize.ShloMosaic Idealize.ShloMosaic.TcCoe Idealize.SL.Sem

theorem reference_frame : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run m ρ)

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 2 Cert.Kernel8Ideal.cfg0.N, run_blocks m g, ?_⟩
  refine (θ_run Cert.Reference8Ideal.defs _ _).mono (fun r h c => ?_) (Cert.Reference8Ideal.Value.run m' g')
  obtain ⟨r0, r1⟩ := hagree c
  refine ⟨(h c).1.trans ?_, (h c).2⟩
  rw [Cert.Reference8Ideal.Read.val_main_v7_eq, r0, r1]
  exact (final m c).symm

end Cert.Kernel8Ideal.Value

end
-- ==== Proof.Kernel9Ideal.Final.lean ====
/- The call for the gradient before the retention's output weights leaves the reference's gradient in its output array. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)
open Cert.Reference9Ideal.Read

variable (m : (ℓ : Loc nD τ sig) → Buf (Elt Ideal) ℓ)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The reference at an index: a row of the gradient against a row of the weights. -/
theorem ref_at (x0 : (⟨S4096x1024, .bf16⟩ : BufTy).Contents (Elt Ideal)) (x1 : (⟨S2048x1024, .bf16⟩ : BufTy).Contents (Elt Ideal)) (i : S4096x2048.Idx) :
    val_main_v4 (F := Ideal) x0 x1 i = ∑ k : Fin 1024, x0 (ix2 ⟨(i 0).val, (i 0).isLt⟩ k) * x1 (ix2 ⟨(i 1).val, (i 1).isLt⟩ k) := by
  pointwise [val_main_v4, val_main_v3, val_main_v1]

/-- The output array after the grid is the reference's. -/
theorem final (c : Dev nD) :
    (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  canon_tiles x h using cover0_2 ..
  all_goals
    pointwise [k0_pay1, k0_pay2, k0_pay3, k0_pay4]
    blk_point [iblk, V, index0 t, index1 t, index2 t]

end Cert.Kernel9Ideal.Value

end
-- ==== Proof.Kernel9Ideal.Agree.lean ====
/- The call and its reference, from the same arguments, end with the same result. -/
module

public import proofs.«01_k».proof.Defs
public import proofs.«01_k».proof.Proof.Kernel9Ideal.Final
public import proofs.«01_k».proof.Proof.Gen.Reference9Ideal.Run

@[expose] public section

noncomputable section

namespace Cert.Kernel9Ideal.Value

open Idealize.ShloMosaic Idealize.ShloMosaic.TcCoe Idealize.SL.Sem

theorem reference_frame : Cert.quiescent_Reference9Ideal (hReference9Ideal := Cert.Reference9Ideal.Gen.facts) := fun m ρ _ =>
  (θ_run Cert.Reference9Ideal.defs _ _).mono
    (fun r h => ⟨fun c => (h c).2, sem_eq_zero_of_no_sems (by decide) r.2⟩) (Cert.Reference9Ideal.Value.run m ρ)

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, run_blocks m g, ?_⟩
  refine (θ_run Cert.Reference9Ideal.defs _ _).mono (fun r h c => ?_) (Cert.Reference9Ideal.Value.run m' g')
  obtain ⟨r0, r1⟩ := hagree c
  refine ⟨(h c).1.trans ?_, (h c).2⟩
  rw [Cert.Reference9Ideal.Read.val_main_v4_eq, r0, r1]
  exact (final m c).symm

end Cert.Kernel9Ideal.Value

end
-- ==== Proof.Kernel10Ideal.Final.lean ====
/- The call for the product of w2 leaves the reference's residual and its norm in its output arrays. -/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)
open Cert.Reference10Ideal.Read

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- The first output array after the grid is the reference's residual. -/
theorem final4 (c : Dev nD) :
    (dats m 0 c).arrAt 4 cfg0.N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  canon_tiles x h using cover0_4 ..
  all_goals
    pointwise [k0_pay2, k0_pay4, val_main_v3, val_main_v2, val_main_v1, val_main_v0]
    blk_point [iblk, V, index0 t, index1 t, index2 t, index3 t, index4 t]

/-- The second output array after the grid is the reference's norm of it. -/
theorem final5 (c : Dev nD) :
    (dats m 0 c).arrAt 5 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  canon_tiles x h using cover0_5 ..
  all_goals
    pointwise [k0_pay1, k0_pay2, k0_pay3, k0_pay4, k0_pay5, k0_pay6, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
    blk_point [iblk, V, index0 t, index1 t, index2 t, index3 t, index5 t]

end Cert.Kernel10Ideal.Value

end
-- ==== Proof.Kernel10Ideal.Agree.lean ====
/- The call and its reference, from the same arguments, end with the same results. -/
module

public import proofs.«01_k».proof.Defs
public import proofs.«01_k».proof.Proof.Kernel10Ideal.Final
public import proofs.«01_k».proof.Proof.Gen.Reference10Ideal.Run

@[expose] public section

noncomputable section

namespace Cert.Kernel10Ideal.Value

open Idealize.ShloMosaic Idealize.ShloMosaic.TcCoe Idealize.SL.Sem

theorem reference_frame : Cert.quiescent_Reference10Ideal (hReference10Ideal := Cert.Reference10Ideal.Gen.facts) := fun m ρ _ =>
  (θ_run Cert.Reference10Ideal.defs _ _).mono
    (fun r h => ⟨fun c => (h c).2.2, sem_eq_zero_of_no_sems (by decide) r.2⟩) (Cert.Reference10Ideal.Value.run m ρ)

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N, run_blocks m g, ?_⟩
  refine (θ_run Cert.Reference10Ideal.defs _ _).mono (fun r h c => ?_) (Cert.Reference10Ideal.Value.run m' g')
  obtain ⟨r0, r1, r2, r3⟩ := hagree c
  refine ⟨(h c).1.trans ?_, (h c).2.1.trans ?_, (h c).2.2⟩
  · rw [Cert.Reference10Ideal.Read.val_main_v3_eq, r0, r1, r2]
    exact (final4 m c).symm
  · rw [Cert.Reference10Ideal.Read.val_main_v18_eq, r0, r1, r2, r3]
    exact (final5 m c).symm

end Cert.Kernel10Ideal.Value

end
-- ==== Proof.Kernel11Ideal.Final.lean ====
/- The call for the retention's output projection leaves the reference's residual and its norm in its output arrays. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)
open Cert.Reference11Ideal.Read

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- The first output array after the grid is the reference's residual. -/
theorem final4 (c : Dev nD) :
    (dats m 0 c).arrAt 4 cfg0.N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  canon_tiles x h using cover0_4 ..
  all_goals
    pointwise [k0_pay2, k0_pay4, val_main_v3, val_main_v2, val_main_v1, val_main_v0]
    blk_point [iblk, V, index0 t, index1 t, index2 t, index3 t, index4 t]

/-- The second output array after the grid is the reference's norm of it. -/
theorem final5 (c : Dev nD) :
    (dats m 0 c).arrAt 5 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  canon_tiles x h using cover0_5 ..
  all_goals
    pointwise [k0_pay1, k0_pay2, k0_pay3, k0_pay4, k0_pay5, k0_pay6, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
    blk_point [iblk, V, index0 t, index1 t, index2 t, index3 t, index5 t]

end Cert.Kernel11Ideal.Value

end
-- ==== Proof.Kernel11Ideal.Agree.lean ====
/- The call and its reference, from the same arguments, end with the same results. -/
module

public import proofs.«01_k».proof.Defs
public import proofs.«01_k».proof.Proof.Kernel11Ideal.Final
public import proofs.«01_k».proof.Proof.Gen.Reference11Ideal.Run

@[expose] public section

noncomputable section

namespace Cert.Kernel11Ideal.Value

open Idealize.ShloMosaic Idealize.ShloMosaic.TcCoe Idealize.SL.Sem

theorem reference_frame : Cert.quiescent_Reference11Ideal (hReference11Ideal := Cert.Reference11Ideal.Gen.facts) := fun m ρ _ =>
  (θ_run Cert.Reference11Ideal.defs _ _).mono
    (fun r h => ⟨fun c => (h c).2.2, sem_eq_zero_of_no_sems (by decide) r.2⟩) (Cert.Reference11Ideal.Value.run m ρ)

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 4 Cert.Kernel11Ideal.cfg0.N, fun c => (Cert.Kernel11Ideal.Gen.dats m 0 c).arrAt 5 Cert.Kernel11Ideal.cfg0.N, run_blocks m g, ?_⟩
  refine (θ_run Cert.Reference11Ideal.defs _ _).mono (fun r h c => ?_) (Cert.Reference11Ideal.Value.run m' g')
  obtain ⟨r0, r1, r2, r3⟩ := hagree c
  refine ⟨(h c).1.trans ?_, (h c).2.1.trans ?_, (h c).2.2⟩
  · rw [Cert.Reference11Ideal.Read.val_main_v3_eq, r0, r1, r2]
    exact (final4 m c).symm
  · rw [Cert.Reference11Ideal.Read.val_main_v18_eq, r0, r1, r2, r3]
    exact (final5 m c).symm

end Cert.Kernel11Ideal.Value

end
-- ==== Proof.Kernel12Ideal.Final.lean ====
/- The call for the gradient of the gate's weights leaves the reference's gradient in its output array. -/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.Kernel12Ideal.Value

open Cert.Kernel12Ideal Cert.Kernel12Ideal.Gen Idealize.ShloMosaic Idealize.ShloMosaic.TcCoe Idealize.SL.Sem
open Idealize.ShloMosaic.Pipeline (Dat)
open Cert.Reference12Ideal.Read

variable (m : (ℓ : Loc nD τ sig) → Buf (Elt Ideal) ℓ)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, 0, 0, t.val % 2] := (by decide +kernel : ∀ t : Fin grid0.N, _)

/-- The reference at an index: chip `i 0`'s row `i 2`, column `i 3`. -/
theorem ref_at (x0 : (⟨S4096x1024, .bf16⟩ : BufTy).Contents (Elt Ideal)) (x1 : (⟨S4096x1024, .bf16⟩ : BufTy).Contents (Elt Ideal)) (i : S4x1x256x1024.Idx) :
    val_main_v7 (F := Ideal) x0 x1 i = ∑ k : Fin 4096, x0 (ix2 k ⟨256 * (i 0).val + (i 2).val, by
          have h0 : (i 0).val < 4 := (i 0).isLt
          have h2 : (i 2).val < 256 := (i 2).isLt
          omega⟩) * x1 (ix2 k ⟨(i 3).val, (i 3).isLt⟩) := by
  pointwise [val_main_v7, val_main_v6, val_main_v5, val_main_v4, val_main_v3, val_main_v1]
  refine Finset.sum_congr rfl fun k _ => ?_
  rw [mul_comm]
  blk_point []

/-- The output array after the grid is the reference's. -/
theorem final (c : Dev nD) :
    (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_at]
  frame_out
  pointwise [k0_pay1]
  blk_point [iblk, V, index0 t, index1 t, index2 t]

end Cert.Kernel12Ideal.Value

end
-- ==== Proof.Kernel12Ideal.Agree.lean ====
/- The call and its reference, from the same arguments, end with the same result. -/
module

public import proofs.«01_k».proof.Defs
public import proofs.«01_k».proof.Proof.Kernel12Ideal.Final
public import proofs.«01_k».proof.Proof.Gen.Reference12Ideal.Run

@[expose] public section

noncomputable section

namespace Cert.Kernel12Ideal.Value

open Idealize.ShloMosaic Idealize.ShloMosaic.TcCoe Idealize.SL.Sem

theorem reference_frame : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run m ρ)

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Gen.dats m 0 c).arrAt 2 Cert.Kernel12Ideal.cfg0.N, run_blocks m g, ?_⟩
  refine (θ_run Cert.Reference12Ideal.defs _ _).mono (fun r h c => ?_) (Cert.Reference12Ideal.Value.run m' g')
  obtain ⟨r0, r1⟩ := hagree c
  refine ⟨(h c).1.trans ?_, (h c).2⟩
  rw [Cert.Reference12Ideal.Read.val_main_v7_eq, r0, r1]
  exact (final m c).symm

end Cert.Kernel12Ideal.Value

end
-- ==== Proof.NormBack.lean ====
/- The gradient of a row's norm in its two forms, over the extended reals, and a sum cut into four parts. The reference's form
   comes of the derivative of the reciprocal root, `-½ · r / v` with `r = v^(-½)`; the kernel's subtracts from the row its part
   along the normed row. They are equal whatever the row and the gradient hold. -/
module

public import Idealize.ShloMosaic.Lib.Pipeline.ValueKit

@[expose] public section

noncomputable section

namespace Cert.NormBack

open Idealize.ShloMosaic
open scoped BigOperators

/-- The word that stands for a row's width is the real number 1024. -/
theorem width : Ideal.ofBits FTy.f32 0x44800000#32 = ((1024 : ℝ) : EReal) := by
  unfold Ideal.ofBits Ideal.ieee
  dsimp only
  rw [if_neg (by decide), if_neg (by decide)]
  norm_num [Nat.shiftRight_eq_div_pow, show ¬BitVec.extractLsb' 31 1 1149239296#32 = 1#1 by decide, show BitVec.extractLsb' 31 1 3204448256#32 = 1#1 by decide]

theorem minus_half : Ideal.ofBits FTy.f32 0xBF000000#32 = ((-(1 / 2) : ℝ) : EReal) := by
  unfold Ideal.ofBits Ideal.ieee
  dsimp only
  rw [if_neg (by decide), if_neg (by decide)]
  norm_num [Nat.shiftRight_eq_div_pow, show ¬BitVec.extractLsb' 31 1 1149239296#32 = 1#1 by decide, show BitVec.extractLsb' 31 1 3204448256#32 = 1#1 by decide]

/-- The number that is added to the mean square is positive. -/
theorem eps_pos : ∃ e : ℝ, 0 < e ∧ Ideal.ofBits FTy.f32 0x358637BD#32 = (e : EReal) := by
  unfold Ideal.ofBits Ideal.ieee
  dsimp only
  rw [if_neg (by decide), if_neg (by decide)]
  refine ⟨_, ?_, rfl⟩
  norm_num [Nat.shiftRight_eq_div_pow, show ¬BitVec.extractLsb' 31 1 897988541#32 = 1#1 by decide]

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- What stands under the root is +∞ or a positive real number. -/
theorem under_root {n : ℕ} (h : Fin n → EReal) :
    Ideal.div (∑ k, h k * h k) (Ideal.ofBits FTy.f32 0x44800000#32) + Ideal.ofBits FTy.f32 0x358637BD#32 = ⊤
      ∨ ∃ v : ℝ, 0 < v ∧ Ideal.div (∑ k, h k * h k) (Ideal.ofBits FTy.f32 0x44800000#32) + Ideal.ofBits FTy.f32 0x358637BD#32 = (v : EReal) := by
  obtain ⟨e, he, hw⟩ := eps_pos
  rw [hw, width, Ideal.div_coe (by norm_num)]
  have hs : (0 : EReal) ≤ ∑ k, h k * h k := Finset.sum_nonneg fun k _ => sq_nonneg' (h k)
  generalize (∑ k, h k * h k) = s at hs
  induction s with
  | bot => simp at hs
  | top =>
    left
    rw [EReal.top_mul_coe_of_pos (by norm_num), EReal.top_add_coe]
  | coe s =>
    right
    have hs' : (0 : ℝ) ≤ s := EReal.coe_nonneg.mp hs
    refine ⟨s * (1 / 1024) + e, by positivity, ?_⟩
    rw [EReal.coe_add, EReal.coe_mul]

/-- A factor that is a real number, and not negative, goes into a sum of extended reals. -/
theorem sum_mul_real {n : ℕ} (f : Fin n → EReal) (r : ℝ) (hr : 0 ≤ r) : ∑ k, f k * (r : EReal) = (∑ k, f k) * (r : EReal) := by
  induction n with
  | zero => simp
  | succ n ih =>
    rw [Fin.sum_univ_castSucc, Fin.sum_univ_castSucc, ih, mul_comm _ (r : EReal), mul_comm _ (r : EReal), mul_comm _ (r : EReal),
      EReal.left_distrib_of_nonneg_of_ne_top (EReal.coe_nonneg.mpr hr) (EReal.coe_ne_top r)]

theorem twice (y : EReal) : y + y = y * ((2 : ℝ) : EReal) := by
  induction y with
  | bot => rw [EReal.bot_mul_coe_of_pos (by norm_num), EReal.bot_add]
  | top => rw [EReal.top_mul_coe_of_pos (by norm_num), EReal.top_add_top]
  | coe y => rw [← EReal.coe_add, ← EReal.coe_mul, mul_two]

theorem opposite (y : EReal) : -y = y * ((-1 : ℝ) : EReal) := by
  rw [EReal.coe_neg, EReal.coe_one, mul_neg, mul_one]

/-- The two forms. `h` is the row, `D` the gradient of the normed row times the gain; `x` and `d` are their entries in one
    column, `a` is the gradient that is added. -/
theorem forms {n : ℕ} (h D : Fin n → EReal) (a x d : EReal) :
    a + d * Ideal.rsqrt (Ideal.div (∑ k, h k * h k) (Ideal.ofBits FTy.f32 0x44800000#32) + Ideal.ofBits FTy.f32 0x358637BD#32)
        + x * ∑ _u : Fin 1, Ideal.div ((∑ k, h k * D k) * (Ideal.ofBits FTy.f32 0xBF000000#32
            * Ideal.div (Ideal.rsqrt (Ideal.div (∑ k, h k * h k) (Ideal.ofBits FTy.f32 0x44800000#32) + Ideal.ofBits FTy.f32 0x358637BD#32))
              (Ideal.div (∑ k, h k * h k) (Ideal.ofBits FTy.f32 0x44800000#32) + Ideal.ofBits FTy.f32 0x358637BD#32)))
            (Ideal.ofBits FTy.f32 0x44800000#32)
        + (∑ _u : Fin 1, Ideal.div ((∑ k, h k * D k) * (Ideal.ofBits FTy.f32 0xBF000000#32
            * Ideal.div (Ideal.rsqrt (Ideal.div (∑ k, h k * h k) (Ideal.ofBits FTy.f32 0x44800000#32) + Ideal.ofBits FTy.f32 0x358637BD#32))
              (Ideal.div (∑ k, h k * h k) (Ideal.ofBits FTy.f32 0x44800000#32) + Ideal.ofBits FTy.f32 0x358637BD#32)))
            (Ideal.ofBits FTy.f32 0x44800000#32)) * x
      = a + Ideal.rsqrt (Ideal.div (∑ k, h k * h k) (Ideal.ofBits FTy.f32 0x44800000#32) + Ideal.ofBits FTy.f32 0x358637BD#32)
          * (d - x * Ideal.rsqrt (Ideal.div (∑ k, h k * h k) (Ideal.ofBits FTy.f32 0x44800000#32) + Ideal.ofBits FTy.f32 0x358637BD#32)
              * Ideal.div (∑ k, D k * (h k * Ideal.rsqrt (Ideal.div (∑ k, h k * h k) (Ideal.ofBits FTy.f32 0x44800000#32) + Ideal.ofBits FTy.f32 0x358637BD#32)))
                (Ideal.ofBits FTy.f32 0x44800000#32)) := by
  have hv := under_root h
  rw [Fin.sum_univ_one]
  generalize Ideal.div (∑ k, h k * h k) (Ideal.ofBits FTy.f32 0x44800000#32) + Ideal.ofBits FTy.f32 0x358637BD#32 = v at hv ⊢
  rw [width, minus_half]
  rcases hv with rfl | ⟨v, hv, rfl⟩
  · have h0 : Ideal.div (0 : EReal) ⊤ = 0 := by simp [Ideal.div]
    simp only [Ideal.rsqrt_top, h0, mul_zero, zero_mul, Ideal.div_coe (show (1024 : ℝ) ≠ 0 by norm_num), add_zero]
  · have hr : Ideal.rsqrt (v : EReal) = (((Real.sqrt v)⁻¹ : ℝ) : EReal) := by
      rw [Ideal.rsqrt_coe, if_neg (not_lt.mpr hv.le), if_neg hv.ne']
    have hpos : 0 < (Real.sqrt v)⁻¹ := inv_pos.mpr (Real.sqrt_pos.mpr hv)
    have hsq : (Real.sqrt v)⁻¹ * (Real.sqrt v)⁻¹ = 1 / v := by
      rw [← mul_inv, Real.mul_self_sqrt hv.le, one_div]
    rw [hr]
    generalize (Real.sqrt v)⁻¹ = r at hpos hsq
    have hS : ∑ k, D k * (h k * (r : EReal)) = (∑ k, h k * D k) * (r : EReal) := by
      rw [← sum_mul_real _ r hpos.le]
      exact Finset.sum_congr rfl fun k _ => by rw [← mul_assoc, mul_comm (D k)]
    rw [hS]
    generalize (∑ k, h k * D k) = s
    simp only [Ideal.div_coe (show (1024 : ℝ) ≠ 0 by norm_num), Ideal.div_coe hv.ne']
    rw [sub_eq_add_neg, EReal.left_distrib_of_nonneg_of_ne_top (EReal.coe_nonneg.mpr hpos.le) (EReal.coe_ne_top r),
      add_assoc, add_assoc, mul_comm d]
    congr 2
    have hq : ∀ q : ℝ, s * (((-(1 / 2) : ℝ) : EReal) * ((r : EReal) * ((1 / v : ℝ) : EReal))) * (q : EReal)
        = s * ((-(1 / 2) * (r * (1 / v)) * q : ℝ) : EReal) := fun q => by
      rw [mul_assoc, ← EReal.coe_mul, ← EReal.coe_mul, ← EReal.coe_mul]
    rw [hq, mul_comm _ x, ← mul_assoc x s]
    rw [twice, mul_assoc (x * s), ← EReal.coe_mul, opposite (x * (r : EReal) * (s * (r : EReal) * ((1 / 1024 : ℝ) : EReal)))]
    calc x * s * ((-(1 / 2) * (r * (1 / v)) * (1 / 1024) * 2 : ℝ) : EReal)
        = x * s * ((r * (r * (r * (1 / 1024))) * -1 : ℝ) : EReal) := by
          congr 2
          rw [← hsq]
          ring
      _ = _ := by
          simp only [EReal.coe_mul]
          ac_rfl

/-- A sum of four parts of one length. -/
theorem four (n : ℕ) (N : ℕ) (hN : N = n * 4) (f : Fin N → EReal) :
    ∑ k, f k = (∑ k : Fin n, f ⟨k.val, by omega⟩) + (∑ k : Fin n, f ⟨n + k.val, by omega⟩)
      + (∑ k : Fin n, f ⟨2 * n + k.val, by omega⟩) + ∑ k : Fin n, f ⟨3 * n + k.val, by omega⟩ := by
  subst hN
  rw [← Fin.sum_congr' f (show n + n + n + n = n * 4 by ring), Fin.sum_univ_add, Fin.sum_univ_add, Fin.sum_univ_add]
  congr 1
  · congr 1
    refine Finset.sum_congr rfl fun k _ => congrArg f (Fin.ext ?_)
    simp [Fin.val_cast]
    ring
  · refine Finset.sum_congr rfl fun k _ => congrArg f (Fin.ext ?_)
    simp [Fin.val_cast]
    ring

/-- A sum over 4096 rows, in 8 blocks of twice 256. -/
theorem halves (f : Fin 4096 → EReal) :
    ∑ t : Fin 8, ((∑ r : Fin 256, f ⟨t.val * 512 + r.val, by omega⟩) + ∑ r : Fin 256, f ⟨t.val * 512 + (256 + r.val), by omega⟩)
      = ∑ p, f p := by
  rw [← Fin.sum_mul_add_fin 8 512 f]
  exact Finset.sum_congr rfl fun t _ => (Fin.sum_univ_add (a := 256) (b := 256) fun k : Fin 512 => f ⟨t.val * 512 + k.val, by omega⟩).symm

end Cert.NormBack

end
-- ==== Proof.Kernel13Ideal.Final.lean ====
/- The call `mlp_w1_dx` leaves the reference's three results in its output arrays: the gradient after the norm in two widths, written
   block by block, and the gradient of the norm's gain, summed up over the grid. -/
module

public import proofs.«01_k».proof.Proof.Gen.Kernel13Ideal.Value
public import proofs.«01_k».proof.Proof.Gen.Reference13Ideal.Read
public import proofs.«01_k».proof.Proof.NormBack

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)
open Cert.Reference13Ideal.Read

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)

section Reference

variable (x0 : (⟨S4096x4096, .bf16⟩ : BufTy).Contents (Elt Ideal)) (x1 : (⟨S4x1024x1024, .bf16⟩ : BufTy).Contents (Elt Ideal))
  (x2 : (⟨S4096x1024, .f32⟩ : BufTy).Contents (Elt Ideal)) (x3 : (⟨S4096x1024, .f32⟩ : BufTy).Contents (Elt Ideal))
  (x4 : (⟨S1x1024, .f32⟩ : BufTy).Contents (Elt Ideal))

/-- The product, its sum in the four chips' parts. -/
theorem product_at (i : S4096x1024.Idx) :
    val_main_v22 (F := Ideal) x0 x1 i
      = (∑ k : Fin 1024, x0 (ix2 (i 0) ⟨k.val, by omega⟩) * x1 (ix3 (⟨0, by decide⟩ : Fin 4) (i 1) k))
        + (∑ k : Fin 1024, x0 (ix2 (i 0) ⟨1024 + k.val, by omega⟩) * x1 (ix3 (⟨1, by decide⟩ : Fin 4) (i 1) k))
        + (∑ k : Fin 1024, x0 (ix2 (i 0) ⟨2048 + k.val, by omega⟩) * x1 (ix3 (⟨2, by decide⟩ : Fin 4) (i 1) k))
        + ∑ k : Fin 1024, x0 (ix2 (i 0) ⟨3072 + k.val, by omega⟩) * x1 (ix3 (⟨3, by decide⟩ : Fin 4) (i 1) k) := by
  pointwise [val_main_v22, val_main_v21, val_main_v20, val_main_v3, val_main_v2, val_main_v1, val_main_v0]
  rw [NormBack.four 1024 4096 rfl]
  blk_point []

/-- The gradient after the norm, its norm's part in the kernel's form. -/
theorem dx_at (i : S4096x1024.Idx) :
    val_main_v43 (F := Ideal) x0 x1 x2 x3 x4 i
      = x3 i + Ideal.rsqrt (Ideal.div (∑ k : Fin 1024, x2 (ix2 (i 0) k) * x2 (ix2 (i 0) k)) (Ideal.ofBits FTy.f32 0x44800000#32) + Ideal.ofBits FTy.f32 0x358637BD#32)
          * (val_main_v22 (F := Ideal) x0 x1 i * x4 (ix2 (0 : Fin 1) (i 1))
            - x2 i * Ideal.rsqrt (Ideal.div (∑ k : Fin 1024, x2 (ix2 (i 0) k) * x2 (ix2 (i 0) k)) (Ideal.ofBits FTy.f32 0x44800000#32) + Ideal.ofBits FTy.f32 0x358637BD#32)
              * Ideal.div (∑ k : Fin 1024, val_main_v22 (F := Ideal) x0 x1 (ix2 (i 0) k) * x4 (ix2 (0 : Fin 1) k)
                  * (x2 (ix2 (i 0) k) * Ideal.rsqrt (Ideal.div (∑ k : Fin 1024, x2 (ix2 (i 0) k) * x2 (ix2 (i 0) k)) (Ideal.ofBits FTy.f32 0x44800000#32) + Ideal.ofBits FTy.f32 0x358637BD#32)))
                (Ideal.ofBits FTy.f32 0x44800000#32)) := by
  refine Eq.trans ?_ (NormBack.forms (fun k : Fin 1024 => x2 (ix2 (i 0) k))
    (fun k : Fin 1024 => val_main_v22 (F := Ideal) x0 x1 (ix2 (i 0) k) * x4 (ix2 (0 : Fin 1) k)) (x3 i) (x2 i)
    (val_main_v22 (F := Ideal) x0 x1 i * x4 (ix2 (0 : Fin 1) (i 1))))
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_v21, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45]

/-- Its second copy is the same number. -/
theorem rounded_at (i : S4096x1024.Idx) :
    val_main_v44 (F := Ideal) x0 x1 x2 x3 x4 i = val_main_v43 (F := Ideal) x0 x1 x2 x3 x4 i := by
  pointwise [val_main_v44]

/-- The gradient of the gain: a sum over the rows. -/
theorem dg_at (i : S1x1024.Idx) :
    val_main_v45 (F := Ideal) x0 x1 x2 i
      = ∑ p : Fin 4096, val_main_v22 (F := Ideal) x0 x1 (ix2 p (i 1)) * (x2 (ix2 p (i 1))
          * Ideal.rsqrt (Ideal.div (∑ k : Fin 1024, x2 (ix2 p k) * x2 (ix2 p k)) (Ideal.ofBits FTy.f32 0x44800000#32) + Ideal.ofBits FTy.f32 0x358637BD#32)) := by
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_v21, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45]
  rw [Fin.sum_univ_one]
  exact Finset.sum_congr rfl fun p _ => mul_comm _ _

end Reference

/-- The gradient after the norm, in float32. -/
theorem final5 (c : Dev nD) :
    (dats m 0 c).arrAt 5 cfg0.N = val_main_v43 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 8 := lt_of_lt_of_eq t.isLt N_0
  blk_simp
  rw [after0_5, dx_at]
  simp only [product_at]
  by_cases h0 : t.val % 8 = 0
  · rw [outsAt0_A m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index5 t])
  · rw [outsAt0_B m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index5 t])

/-- The gradient after the norm, in bf16. -/
theorem final6 (c : Dev nD) :
    (dats m 0 c).arrAt 6 cfg0.N = val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 8 := lt_of_lt_of_eq t.isLt N_0
  blk_simp
  rw [after0_6, rounded_at, dx_at]
  simp only [product_at]
  by_cases h0 : t.val % 8 = 0
  · rw [outsAt0_A m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index6 t])
  · rw [outsAt0_B m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index6 t])

/-- One row's share of the gain's gradient. -/
def share (c : Dev nD) (p : Fin 4096) (j : Fin 1024) : EReal :=
  val_main_v22 (F := Ideal) (m ((c : Thread nD τ).loc main_arg0)) (m ((c : Thread nD τ).loc main_arg1)) (ix2 p j)
    * ((show FVec Ideal S4096x1024 .f32 from m ((c : Thread nD τ).loc main_arg2)) (ix2 p j)
      * Ideal.rsqrt (Ideal.div (∑ k : Fin 1024, (show FVec Ideal S4096x1024 .f32 from m ((c : Thread nD τ).loc main_arg2)) (ix2 p k)
          * (show FVec Ideal S4096x1024 .f32 from m ((c : Thread nD τ).loc main_arg2)) (ix2 p k)) (Ideal.ofBits FTy.f32 0x44800000#32)
        + Ideal.ofBits FTy.f32 0x358637BD#32))

/-- The gradient of the gain: the first point stores its 512 rows' sum, each later one adds its own to what is there. -/
theorem final7 (c : Dev nD) :
    (dats m 0 c).arrAt 7 cfg0.N = val_main_v45 (F := Ideal) (m ((c : Thread nD τ).loc main_arg0)) (m ((c : Thread nD τ).loc main_arg1))
      (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => (0 : EReal))
    (fun (t : Fin 8) (j : S1x1024.Idx) => (∑ r : Fin 256, share m c ⟨t.val * 512 + r.val, by omega⟩ (j 1))
      + ∑ r : Fin 256, share m c ⟨t.val * 512 + (256 + r.val), by omega⟩ (j 1))
    (fun t h j => by
      have hN : t.val < 8 := t.isLt
      beta_reduce
      rw [outsAt0_A m c t h (by omega), zero_add]
      frame_out
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [share, product_at]
      blk_point [iblk, V, index0 t, index1 t, index2 t])
    (fun t h j => by
      have hN : t.val < 8 := t.isLt
      beta_reduce
      rw [outsAt0_B m c t h (by omega)]
      frame_out
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [share, product_at]
      blk_point [iblk, V, index0 t, index1 t, index2 t])
    (le_of_eq N_0) t0_7 rfl j, zero_add, dg_at]
  exact NormBack.halves fun p => share m c p (j 1)

end Cert.Kernel13Ideal.Value

end
-- ==== Proof.Kernel13Ideal.Agree.lean ====
/- The call and its reference, from the same arguments, end with the same results. -/
module

public import proofs.«01_k».proof.Defs
public import proofs.«01_k».proof.Proof.Kernel13Ideal.Final
public import proofs.«01_k».proof.Proof.Gen.Reference13Ideal.Run

@[expose] public section

noncomputable section

namespace Cert.Kernel13Ideal.Value

open Idealize.ShloMosaic Idealize.ShloMosaic.TcCoe Idealize.SL.Sem

theorem reference_frame : Cert.quiescent_Reference13Ideal (hReference13Ideal := Cert.Reference13Ideal.Gen.facts) := fun m ρ _ =>
  (θ_run Cert.Reference13Ideal.defs _ _).mono
    (fun r h => ⟨fun c => (h c).2.2.2, sem_eq_zero_of_no_sems (by decide) r.2⟩) (Cert.Reference13Ideal.Value.run m ρ)

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => (Cert.Kernel13Ideal.Gen.dats m 0 c).arrAt 5 Cert.Kernel13Ideal.cfg0.N, fun c => (Cert.Kernel13Ideal.Gen.dats m 0 c).arrAt 6 Cert.Kernel13Ideal.cfg0.N, fun c => (Cert.Kernel13Ideal.Gen.dats m 0 c).arrAt 7 Cert.Kernel13Ideal.cfg0.N, run_blocks m g, ?_⟩
  refine (θ_run Cert.Reference13Ideal.defs _ _).mono (fun r h c => ?_) (Cert.Reference13Ideal.Value.run m' g')
  obtain ⟨r0, r1, r2, r3, r4⟩ := hagree c
  refine ⟨(h c).1.trans ?_, (h c).2.1.trans ?_, (h c).2.2.1.trans ?_, (h c).2.2.2⟩
  · rw [Cert.Reference13Ideal.Read.val_main_v43_eq m' c, r0, r1, r2, r3, r4]
    exact (final5 m c).symm
  · rw [Cert.Reference13Ideal.Read.val_main_v44_eq m' c, r0, r1, r2, r3, r4]
    exact (final6 m c).symm
  · rw [Cert.Reference13Ideal.Read.val_main_v45_eq, r0, r1, r2]
    exact (final7 m c).symm

end Cert.Kernel13Ideal.Value

end
-- ==== Proof.Kernel14Ideal.Final.lean ====
/- The call `ret_w_in_dx` leaves the reference's three results in its output arrays: the gradient after the norm in two widths, written
   block by block, and the gradient of the norm's gain, summed up over the grid. -/
module

public import proofs.«01_k».proof.Proof.Gen.Kernel14Ideal.Value
public import proofs.«01_k».proof.Proof.Gen.Reference14Ideal.Read
public import proofs.«01_k».proof.Proof.NormBack

@[expose] public section

set_option maxRecDepth 16384

noncomputable section

namespace Cert.Kernel14Ideal.Value

open Cert.Kernel14Ideal Cert.Kernel14Ideal.Gen Idealize.ShloMosaic Idealize.ShloMosaic.TcCoe Idealize.SL.Sem
open Idealize.ShloMosaic.Pipeline (Dat)
open Cert.Reference14Ideal.Read

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)

section Reference

variable (x0 : (⟨S4096x6144, .bf16⟩ : BufTy).Contents (Elt Ideal)) (x1 : (⟨S4x1024x1536, .bf16⟩ : BufTy).Contents (Elt Ideal))
  (x2 : (⟨S4096x1024, .f32⟩ : BufTy).Contents (Elt Ideal)) (x3 : (⟨S4096x1024, .f32⟩ : BufTy).Contents (Elt Ideal))
  (x4 : (⟨S1x1024, .f32⟩ : BufTy).Contents (Elt Ideal))

/-- The product, its sum in the four chips' parts. -/
theorem product_at (i : S4096x1024.Idx) :
    val_main_v22 (F := Ideal) x0 x1 i
      = (∑ k : Fin 1536, x0 (ix2 (i 0) ⟨k.val, by omega⟩) * x1 (ix3 (⟨0, by decide⟩ : Fin 4) (i 1) k))
        + (∑ k : Fin 1536, x0 (ix2 (i 0) ⟨1536 + k.val, by omega⟩) * x1 (ix3 (⟨1, by decide⟩ : Fin 4) (i 1) k))
        + (∑ k : Fin 1536, x0 (ix2 (i 0) ⟨3072 + k.val, by omega⟩) * x1 (ix3 (⟨2, by decide⟩ : Fin 4) (i 1) k))
        + ∑ k : Fin 1536, x0 (ix2 (i 0) ⟨4608 + k.val, by omega⟩) * x1 (ix3 (⟨3, by decide⟩ : Fin 4) (i 1) k) := by
  pointwise [val_main_v22, val_main_v21, val_main_v20, val_main_v3, val_main_v2, val_main_v1, val_main_v0]
  rw [NormBack.four 1536 6144 rfl]
  blk_point []

/-- The gradient after the norm, its norm's part in the kernel's form. -/
theorem dx_at (i : S4096x1024.Idx) :
    val_main_v43 (F := Ideal) x0 x1 x2 x3 x4 i
      = x3 i + Ideal.rsqrt (Ideal.div (∑ k : Fin 1024, x2 (ix2 (i 0) k) * x2 (ix2 (i 0) k)) (Ideal.ofBits FTy.f32 0x44800000#32) + Ideal.ofBits FTy.f32 0x358637BD#32)
          * (val_main_v22 (F := Ideal) x0 x1 i * x4 (ix2 (0 : Fin 1) (i 1))
            - x2 i * Ideal.rsqrt (Ideal.div (∑ k : Fin 1024, x2 (ix2 (i 0) k) * x2 (ix2 (i 0) k)) (Ideal.ofBits FTy.f32 0x44800000#32) + Ideal.ofBits FTy.f32 0x358637BD#32)
              * Ideal.div (∑ k : Fin 1024, val_main_v22 (F := Ideal) x0 x1 (ix2 (i 0) k) * x4 (ix2 (0 : Fin 1) k)
                  * (x2 (ix2 (i 0) k) * Ideal.rsqrt (Ideal.div (∑ k : Fin 1024, x2 (ix2 (i 0) k) * x2 (ix2 (i 0) k)) (Ideal.ofBits FTy.f32 0x44800000#32) + Ideal.ofBits FTy.f32 0x358637BD#32)))
                (Ideal.ofBits FTy.f32 0x44800000#32)) := by
  refine Eq.trans ?_ (NormBack.forms (fun k : Fin 1024 => x2 (ix2 (i 0) k))
    (fun k : Fin 1024 => val_main_v22 (F := Ideal) x0 x1 (ix2 (i 0) k) * x4 (ix2 (0 : Fin 1) k)) (x3 i) (x2 i)
    (val_main_v22 (F := Ideal) x0 x1 i * x4 (ix2 (0 : Fin 1) (i 1))))
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_v21, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45]

/-- Its second copy is the same number. -/
theorem rounded_at (i : S4096x1024.Idx) :
    val_main_v44 (F := Ideal) x0 x1 x2 x3 x4 i = val_main_v43 (F := Ideal) x0 x1 x2 x3 x4 i := by
  pointwise [val_main_v44]

/-- The gradient of the gain: a sum over the rows. -/
theorem dg_at (i : S1x1024.Idx) :
    val_main_v45 (F := Ideal) x0 x1 x2 i
      = ∑ p : Fin 4096, val_main_v22 (F := Ideal) x0 x1 (ix2 p (i 1)) * (x2 (ix2 p (i 1))
          * Ideal.rsqrt (Ideal.div (∑ k : Fin 1024, x2 (ix2 p k) * x2 (ix2 p k)) (Ideal.ofBits FTy.f32 0x44800000#32) + Ideal.ofBits FTy.f32 0x358637BD#32)) := by
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_v21, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45]
  rw [Fin.sum_univ_one]
  exact Finset.sum_congr rfl fun p _ => mul_comm _ _

end Reference

/-- The gradient after the norm, in float32. -/
theorem final5 (c : Dev nD) :
    (dats m 0 c).arrAt 5 cfg0.N = val_main_v43 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 8 := lt_of_lt_of_eq t.isLt N_0
  blk_simp
  rw [after0_5, dx_at]
  simp only [product_at]
  by_cases h0 : t.val % 8 = 0
  · rw [outsAt0_A m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index5 t])
  · rw [outsAt0_B m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index5 t])

/-- The gradient after the norm, in bf16. -/
theorem final6 (c : Dev nD) :
    (dats m 0 c).arrAt 6 cfg0.N = val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 8 := lt_of_lt_of_eq t.isLt N_0
  blk_simp
  rw [after0_6, rounded_at, dx_at]
  simp only [product_at]
  by_cases h0 : t.val % 8 = 0
  · rw [outsAt0_A m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index6 t])
  · rw [outsAt0_B m c t h0 (by omega)]
    frame_out
    canon_tiles x h
    all_goals (
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      blk_point [iblk, V, index0 t, index1 t, index2 t, index3 t, index4 t, index6 t])

/-- One row's share of the gain's gradient. -/
def share (c : Dev nD) (p : Fin 4096) (j : Fin 1024) : EReal :=
  val_main_v22 (F := Ideal) (m ((c : Thread nD τ).loc main_arg0)) (m ((c : Thread nD τ).loc main_arg1)) (ix2 p j)
    * ((show FVec Ideal S4096x1024 .f32 from m ((c : Thread nD τ).loc main_arg2)) (ix2 p j)
      * Ideal.rsqrt (Ideal.div (∑ k : Fin 1024, (show FVec Ideal S4096x1024 .f32 from m ((c : Thread nD τ).loc main_arg2)) (ix2 p k)
          * (show FVec Ideal S4096x1024 .f32 from m ((c : Thread nD τ).loc main_arg2)) (ix2 p k)) (Ideal.ofBits FTy.f32 0x44800000#32)
        + Ideal.ofBits FTy.f32 0x358637BD#32))

/-- The gradient of the gain: the first point stores its 512 rows' sum, each later one adds its own to what is there. -/
theorem final7 (c : Dev nD) :
    (dats m 0 c).arrAt 7 cfg0.N = val_main_v45 (F := Ideal) (m ((c : Thread nD τ).loc main_arg0)) (m ((c : Thread nD τ).loc main_arg1))
      (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => (0 : EReal))
    (fun (t : Fin 8) (j : S1x1024.Idx) => (∑ r : Fin 256, share m c ⟨t.val * 512 + r.val, by omega⟩ (j 1))
      + ∑ r : Fin 256, share m c ⟨t.val * 512 + (256 + r.val), by omega⟩ (j 1))
    (fun t h j => by
      have hN : t.val < 8 := t.isLt
      beta_reduce
      rw [outsAt0_A m c t h (by omega), zero_add]
      frame_out
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [share, product_at]
      blk_point [iblk, V, index0 t, index1 t, index2 t])
    (fun t h j => by
      have hN : t.val < 8 := t.isLt
      beta_reduce
      rw [outsAt0_B m c t h (by omega)]
      frame_out
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [share, product_at]
      blk_point [iblk, V, index0 t, index1 t, index2 t])
    (le_of_eq N_0) t0_7 rfl j, zero_add, dg_at]
  exact NormBack.halves fun p => share m c p (j 1)

end Cert.Kernel14Ideal.Value

end
-- ==== Proof.Kernel14Ideal.Agree.lean ====
/- The call and its reference, from the same arguments, end with the same results. -/
module

public import proofs.«01_k».proof.Defs
public import proofs.«01_k».proof.Proof.Kernel14Ideal.Final
public import proofs.«01_k».proof.Proof.Gen.Reference14Ideal.Run

@[expose] public section

noncomputable section

namespace Cert.Kernel14Ideal.Value

open Idealize.ShloMosaic Idealize.ShloMosaic.TcCoe Idealize.SL.Sem

theorem reference_frame : Cert.quiescent_Reference14Ideal (hReference14Ideal := Cert.Reference14Ideal.Gen.facts) := fun m ρ _ =>
  (θ_run Cert.Reference14Ideal.defs _ _).mono
    (fun r h => ⟨fun c => (h c).2.2.2, sem_eq_zero_of_no_sems (by decide) r.2⟩) (Cert.Reference14Ideal.Value.run m ρ)

theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N, fun c => (Cert.Kernel14Ideal.Gen.dats m 0 c).arrAt 7 Cert.Kernel14Ideal.cfg0.N, run_blocks m g, ?_⟩
  refine (θ_run Cert.Reference14Ideal.defs _ _).mono (fun r h c => ?_) (Cert.Reference14Ideal.Value.run m' g')
  obtain ⟨r0, r1, r2, r3, r4⟩ := hagree c
  refine ⟨(h c).1.trans ?_, (h c).2.1.trans ?_, (h c).2.2.1.trans ?_, (h c).2.2.2⟩
  · rw [Cert.Reference14Ideal.Read.val_main_v43_eq m' c, r0, r1, r2, r3, r4]
    exact (final5 m c).symm
  · rw [Cert.Reference14Ideal.Read.val_main_v44_eq m' c, r0, r1, r2, r3, r4]
    exact (final6 m c).symm
  · rw [Cert.Reference14Ideal.Read.val_main_v45_eq, r0, r1, r2]
    exact (final7 m c).symm

end Cert.Kernel14Ideal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Agree
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Kernel2Ideal.Agree
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Kernel3Ideal.Agree
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Kernel4Ideal.Agree
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Kernel5Ideal.Agree
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Kernel6Ideal.Agree
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Kernel7Ideal.Agree
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Kernel8Ideal.Agree
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Kernel9Ideal.Agree
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Kernel10Ideal.Agree
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Kernel11Ideal.Agree
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Kernel12Ideal.Agree
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Kernel13Ideal.Agree
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Kernel14Ideal.Agree
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init

@[expose] public section

noncomputable section

namespace Cert.Proof

open Idealize.ShloMosaic Idealize.SL.Sem

/-- The reference's frame. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩) (Cert.ReferenceIdeal.Value.run m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · exact (θ_run Cert.KernelIdeal.defs _ _).mono
      (fun r h c => ⟨(h.1 c).1 6, (h.1 c).1 7, (h.1 c).1 8, (h.2.1 c).1, (h.2.1 c).2.1, (h.2.1 c).2.2.1, (h.2.1 c).2.2.2⟩)
      (θ_run_and (Cert.KernelIdeal.Gen.run_main m g) (Cert.KernelIdeal.Gen.frame m g))
  · refine (θ_run Cert.ReferenceIdeal.defs _ _).mono (fun r h c => ?_) (Cert.ReferenceIdeal.Value.run m' g')
    obtain ⟨r0, r1, r2, r3⟩ := hagree c
    obtain ⟨h0, h1, h2, hargs⟩ := h c
    refine ⟨h0.trans ?_, h1.trans ?_, h2.trans ?_, hargs⟩
    · rw [Cert.ReferenceIdeal.Read.val_main_v69_eq, r0, r1, r2, r3]
      exact (dq_agree m c (hpre c)).symm
    · rw [Cert.ReferenceIdeal.Read.val_main_v72_eq, r0, r1, r2, r3]
      exact (dk_agree m c (hpre c)).symm
    · rw [Cert.ReferenceIdeal.Read.val_main_v74_eq, r0, r1, r3]
      exact (dv_agree m c (hpre c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ, fun m ρ _ => Cert.Kernel2Ideal.Gen.frame m ρ, Cert.Kernel2Ideal.Value.reference_frame,
  fun m ρ _ => Cert.Kernel3.Gen.frame m ρ, fun m ρ _ => Cert.Kernel3Ideal.Gen.frame m ρ, Cert.Kernel3Ideal.Value.reference_frame,
  fun m ρ _ => Cert.Kernel4.Gen.frame m ρ, fun m ρ _ => Cert.Kernel4Ideal.Gen.frame m ρ, Cert.Kernel4Ideal.Value.reference_frame,
  fun m ρ _ => Cert.Kernel5.Gen.frame m ρ, fun m ρ _ => Cert.Kernel5Ideal.Gen.frame m ρ, Cert.Kernel5Ideal.Value.reference_frame,
  fun m ρ _ => Cert.Kernel6.Gen.frame m ρ, fun m ρ _ => Cert.Kernel6Ideal.Gen.frame m ρ, Cert.Kernel6Ideal.Value.reference_frame,
  fun m ρ _ => Cert.Kernel7.Gen.frame m ρ, fun m ρ _ => Cert.Kernel7Ideal.Gen.frame m ρ, Cert.Kernel7Ideal.Value.reference_frame,
  fun m ρ _ => Cert.Kernel8.Gen.frame m ρ, fun m ρ _ => Cert.Kernel8Ideal.Gen.frame m ρ, Cert.Kernel8Ideal.Value.reference_frame,
  fun m ρ _ => Cert.Kernel9.Gen.frame m ρ, fun m ρ _ => Cert.Kernel9Ideal.Gen.frame m ρ, Cert.Kernel9Ideal.Value.reference_frame,
  fun m ρ _ => Cert.Kernel10.Gen.frame m ρ, fun m ρ _ => Cert.Kernel10Ideal.Gen.frame m ρ, Cert.Kernel10Ideal.Value.reference_frame,
  fun m ρ _ => Cert.Kernel11.Gen.frame m ρ, fun m ρ _ => Cert.Kernel11Ideal.Gen.frame m ρ, Cert.Kernel11Ideal.Value.reference_frame,
  fun m ρ _ => Cert.Kernel12.Gen.frame m ρ, fun m ρ _ => Cert.Kernel12Ideal.Gen.frame m ρ, Cert.Kernel12Ideal.Value.reference_frame,
  fun m ρ _ => Cert.Kernel13.Gen.frame m ρ, fun m ρ _ => Cert.Kernel13Ideal.Gen.frame m ρ, Cert.Kernel13Ideal.Value.reference_frame,
  fun m ρ _ => Cert.Kernel14.Gen.frame m ρ, fun m ρ _ => Cert.Kernel14Ideal.Gen.frame m ρ, Cert.Kernel14Ideal.Value.reference_frame,
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩,
  algebraic,
  trivial, Cert.Kernel2Ideal.Value.algebraic,
  trivial, Cert.Kernel3Ideal.Value.algebraic,
  trivial, Cert.Kernel4Ideal.Value.algebraic,
  trivial, Cert.Kernel5Ideal.Value.algebraic,
  trivial, Cert.Kernel6Ideal.Value.algebraic,
  trivial, Cert.Kernel7Ideal.Value.algebraic,
  trivial, Cert.Kernel8Ideal.Value.algebraic,
  trivial, Cert.Kernel9Ideal.Value.algebraic,
  trivial, Cert.Kernel10Ideal.Value.algebraic,
  trivial, Cert.Kernel11Ideal.Value.algebraic,
  trivial, Cert.Kernel12Ideal.Value.algebraic,
  trivial, Cert.Kernel13Ideal.Value.algebraic,
  trivial, Cert.Kernel14Ideal.Value.algebraic⟩

end Cert.Proof

end
